-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_on_in_use [hKernel2Ideal : Cert.Kernel2Ideal.Facts] [hReference2Ideal : Cert.Reference2Ideal.Facts] [hPre_routed : Cert.Pre_routed.Facts] [hOn_in_use : Cert.On_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![40960, 2048]⟩ : Shape).Idx, (Cert.On_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![40960, 2048]⟩ : Shape).Idx, (Cert.On_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v15) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_routed : Cert.Pre_routed.Facts) (hOn_in_use : Cert.On_in_use.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_in_use (hKernel2Ideal := hKernel2Ideal) (hReference2Ideal := hReference2Ideal) (hPre_routed := hPre_routed) (hOn_in_use := hOn_in_use)
-- ==== On_in_use.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S40x1024x2048 : Shape := ⟨3, ![40, 1024, 2048]⟩
abbrev S1x1x1 : Shape := ⟨3, ![1, 1, 1]⟩
abbrev S40x1x1 : Shape := ⟨3, ![40, 1, 1]⟩

class Facts : Prop where
  bcast_S1_S1x1x1_0 : S1.BroadcastsInDim S1x1x1 (![0] : Fin 1 → Fin S1x1x1.rank)
  bcast_S1x1x1_S40x1024x2048_0_1_2 : S1x1x1.BroadcastsInDim S40x1024x2048 (![0, 1, 2] : Fin 3 → Fin S40x1024x2048.rank)
  bcast_S40_S40x1x1_0 : S40.BroadcastsInDim S40x1x1 (![0] : Fin 1 → Fin S40x1x1.rank)
  bcast_S40x1x1_S40x1024x2048_0_1_2 : S40x1x1.BroadcastsInDim S40x1024x2048 (![0, 1, 2] : Fin 3 → Fin S40x1024x2048.rank)
  shapeCasts_S40x1024x2048_S40960x2048 : S40x1024x2048.ShapeCasts S40960x2048

variable [Facts]

def fn {F : FTy → Type} [FloatOps F] (main_arg0 : IVec S40 32) (main_arg1 : IVec S40 32) (main_arg2 : IVec S1 32) (main_arg3 : FVec F S40960x2048 .bf16) (main_arg4 : FVec F S8x2048x5632 .f32) (main_arg5 : FVec F S8x2048x5632 .f32) (main_arg6 : FVec F S8x5632x2048 .f32) : IVec S40960x2048 1 :=
  let main_v0 : IVec S40x1024x2048 32 := iotaInDim S40x1024x2048 32 0
  let main_v1 : IVec S40x1024x2048 32 := iotaInDim S40x1024x2048 32 1
  let main_v2 : IVec S1x1x1 32 := broadcastInDim S1x1x1 ![0] bcast_S1_S1x1x1_0 main_arg2
  let main_v3 : IVec S40x1024x2048 32 := broadcastInDim S40x1024x2048 ![0, 1, 2] bcast_S1x1x1_S40x1024x2048_0_1_2 main_v2
  let main_v4 : IVec S40x1024x2048 1 := cmpi .slt main_v0 main_v3
  let main_v5 : IVec S40x1x1 32 := broadcastInDim S40x1x1 ![0] bcast_S40_S40x1x1_0 main_arg1
  let main_v6 : IVec S40x1024x2048 32 := broadcastInDim S40x1024x2048 ![0, 1, 2] bcast_S40x1x1_S40x1024x2048_0_1_2 main_v5
  let main_v7 : IVec S40x1024x2048 1 := cmpi .slt main_v1 main_v6
  let main_v8 : IVec S40x1024x2048 1 := andi main_v4 main_v7
  let main_v9 : IVec S40960x2048 1 := shapeCast S40960x2048 main_v8 shapeCasts_S40x1024x2048_S40960x2048
  main_v9
-- ==== Pre_finite.lean ====
abbrev S2x8448x6x2x64 : Shape := ⟨5, ![2, 8448, 6, 2, 64]⟩
abbrev S2x8448x6x128 : Shape := ⟨4, ![2, 8448, 6, 128]⟩
abbrev S64 : Shape := ⟨1, ![64]⟩
abbrev S128 : Shape := ⟨1, ![128]⟩
abbrev S_ : Shape := ⟨0, ![]⟩

class Facts : Prop where
  bcast_S_S2x8448x6x2x64 : S_.BroadcastsInDim S2x8448x6x2x64 (![] : Fin 0 → Fin S2x8448x6x2x64.rank)
  reducesTo_S2x8448x6x2x64_S_d0_1_2_3_4 : S2x8448x6x2x64.ReducesTo [0, 1, 2, 3, 4] S_
  h_S_ : 0 < S_.numel
  bcast_S_S2x8448x6x128 : S_.BroadcastsInDim S2x8448x6x128 (![] : Fin 0 → Fin S2x8448x6x128.rank)
  reducesTo_S2x8448x6x128_S_d0_1_2_3 : S2x8448x6x128.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg5 : FVec F S64 .f32) (main_arg6 : FVec F S64 .f32) (main_v5 : IVec S_ 1) (main_v11 : IVec S_ 1) (main_v17 : IVec S_ 1) (main_v23 : IVec S_ 1) (main_v29 : IVec S_ 1) (main_v31 : IVec S64 1) : IVec S_ 1 :=
  let main_cst_14 : FVec F S_ .f32 := constant S_ .f32 0xFF800000#32
  let main_v32 : FVec F S64 .f32 := broadcastInDim S64 ![] bcast_S_S64 main_cst_14
  let main_v33 : IVec S64 1 := cmpf .ogt main_arg5 main_v32
  let main_v34 : IVec S64 1 := andi main_v31 main_v33
  let main_c_15 : IVec S_ 1 := constantI S_ 1 1#1
  let main_v35 : IVec S_ 1 := (fun x v => Host.reduce IntOp.andi x v reducesTo_S64_S_d0 h_S_) main_v34 main_c_15
  let main_cst_16 : FVec F S_ .f32 := constant S_ .f32 0x7F800000#32
  let main_v36 : FVec F S64 .f32 := broadcastInDim S64 ![] bcast_S_S64 main_cst_16
  let main_v37 : IVec S64 1 := cmpf .olt main_arg6 main_v36
  let main_cst_17 : FVec F S_ .f32 := constant S_ .f32 0xFF800000#32
  let main_v38 : FVec F S64 .f32 := broadcastInDim S64 ![] bcast_S_S64 main_cst_17
  let main_v39 : IVec S64 1 := cmpf .ogt main_arg6 main_v38
  let main_v40 : IVec S64 1 := andi main_v37 main_v39
  let main_c_18 : IVec S_ 1 := constantI S_ 1 1#1
  let main_v41 : IVec S_ 1 := (fun x v => Host.reduce IntOp.andi x v reducesTo_S64_S_d0 h_S_) main_v40 main_c_18
  let main_v42 : IVec S_ 1 := andi main_v5 main_v11
  let main_v43 : IVec S_ 1 := andi main_v42 main_v17
  let main_v44 : IVec S_ 1 := andi main_v43 main_v23
  let main_v45 : IVec S_ 1 := andi main_v44 main_v29
  let main_v46 : IVec S_ 1 := andi main_v45 main_v35
  let main_v47 : IVec S_ 1 := andi main_v46 main_v41
  main_v47

def fn_part1 {F : FTy → Type} [FloatOps F] (main_arg3 : FVec F S64 .f32) (main_arg4 : FVec F S64 .f32) (main_arg5 : FVec F S64 .f32) (main_arg6 : FVec F S64 .f32) (main_v5 : IVec S_ 1) (main_v11 : IVec S_ 1) (main_v13 : IVec S2x8448x6x128 1) (main_v15 : IVec S2x8448x6x128 1) : IVec S_ 1 :=
  let main_v16 : IVec S2x8448x6x128 1 := andi main_v13 main_v15
  let main_c_6 : IVec S_ 1 := constantI S_ 1 1#1
  let main_v17 : IVec S_ 1 := (fun x v => Host.reduce IntOp.andi x v reducesTo_S2x8448x6x128_S_d0_1_2_3 h_S_) main_v16 main_c_6
  let main_cst_7 : FVec F S_ .f32 := constant S_ .f32 0x7F800000#32
  let main_v18 : FVec F S64 .f32 := broadcastInDim S64 ![] bcast_S_S64 main_cst_7
  let main_v19 : IVec S64 1 := cmpf .olt main_arg3 main_v18
  let main_cst_8 : FVec F S_ .f32 := constant S_ .f32 0xFF800000#32
  let main_v20 : FVec F S64 .f32 := broadcastInDim S64 ![] bcast_S_S64 main_cst_8
  let main_v21 : IVec S64 1 := cmpf .ogt main_arg3 main_v20
  let main_v22 : IVec S64 1 := andi main_v19 main_v21
  let main_c_9 : IVec S_ 1 := constantI S_ 1 1#1
  let main_v23 : IVec S_ 1 := (fun x v => Host.reduce IntOp.andi x v reducesTo_S64_S_d0 h_S_) main_v22 main_c_9
  let main_cst_10 : FVec F S_ .f32 := constant S_ .f32 0x7F800000#32
  let main_v24 : FVec F S64 .f32 := broadcastInDim S64 ![] bcast_S_S64 main_cst_10
  let main_v25 : IVec S64 1 := cmpf .olt main_arg4 main_v24
  let main_cst_11 : FVec F S_ .f32 := constant S_ .f32 0xFF800000#32
  let main_v26 : FVec F S64 .f32 := broadcastInDim S64 ![] bcast_S_S64 main_cst_11
  let main_v27 : IVec S64 1 := cmpf .ogt main_arg4 main_v26
  let main_v28 : IVec S64 1 := andi main_v25 main_v27
  let main_c_12 : IVec S_ 1 := constantI S_ 1 1#1
  let main_v29 : IVec S_ 1 := (fun x v => Host.reduce IntOp.andi x v reducesTo_S64_S_d0 h_S_) main_v28 main_c_12
  let main_cst_13 : FVec F S_ .f32 := constant S_ .f32 0x7F800000#32
  let main_v30 : FVec F S64 .f32 := broadcastInDim S64 ![] bcast_S_S64 main_cst_13
  let main_v31 : IVec S64 1 := cmpf .olt main_arg5 main_v30
  fn_part2 (F := F) main_arg5 main_arg6 main_v5 main_v11 main_v17 main_v23 main_v29 main_v31

def fn {F : FTy → Type} [FloatOps F] (main_arg0 : FVec F S2x8448x6x2x64 .f32) (main_arg1 : FVec F S2x8448x6x2x64 .f32) (main_arg2 : FVec F S2x8448x6x128 .f32) (main_arg3 : FVec F S64 .f32) (main_arg4 : FVec F S64 .f32) (main_arg5 : FVec F S64 .f32) (main_arg6 : FVec F S64 .f32) (main_arg7 : FVec F S128 .f32) : IVec S_ 1 :=
  let main_cst : FVec F S_ .f32 := constant S_ .f32 0x7F800000#32
  let main_v0 : FVec F S2x8448x6x2x64 .f32 := broadcastInDim S2x8448x6x2x64 ![] bcast_S_S2x8448x6x2x64 main_cst
  let main_v1 : IVec S2x8448x6x2x64 1 := cmpf .olt main_arg0 main_v0
  let main_cst_0 : FVec F S_ .f32 := constant S_ .f32 0xFF800000#32
  let main_v2 : FVec F S2x8448x6x2x64 .f32 := broadcastInDim S2x8448x6x2x64 ![] bcast_S_S2x8448x6x2x64 main_cst_0
  let main_v3 : IVec S2x8448x6x2x64 1 := cmpf .ogt main_arg0 main_v2
  let main_v4 : IVec S2x8448x6x2x64 1 := andi main_v1 main_v3
  let main_c : IVec S_ 1 := constantI S_ 1 1#1
  let main_v5 : IVec S_ 1 := (fun x v => Host.reduce IntOp.andi x v reducesTo_S2x8448x6x2x64_S_d0_1_2_3_4 h_S_) main_v4 main_c
  let main_cst_1 : FVec F S_ .f32 := constant S_ .f32 0x7F800000#32
  let main_v6 : FVec F S2x8448x6x2x64 .f32 := broadcastInDim S2x8448x6x2x64 ![] bcast_S_S2x8448x6x2x64 main_cst_1
  let main_v7 : IVec S2x8448x6x2x64 1 := cmpf .olt main_arg1 main_v6
  let main_cst_2 : FVec F S_ .f32 := constant S_ .f32 0xFF800000#32
  let main_v8 : FVec F S2x8448x6x2x64 .f32 := broadcastInDim S2x8448x6x2x64 ![] bcast_S_S2x8448x6x2x64 main_cst_2
  let main_v9 : IVec S2x8448x6x2x64 1 := cmpf .ogt main_arg1 main_v8
  let main_v10 : IVec S2x8448x6x2x64 1 := andi main_v7 main_v9
  let main_c_3 : IVec S_ 1 := constantI S_ 1 1#1
  let main_v11 : IVec S_ 1 := (fun x v => Host.reduce IntOp.andi x v reducesTo_S2x8448x6x2x64_S_d0_1_2_3_4 h_S_) main_v10 main_c_3
  let main_cst_4 : FVec F S_ .f32 := constant S_ .f32 0x7F800000#32
  let main_v12 : FVec F S2x8448x6x128 .f32 := broadcastInDim S2x8448x6x128 ![] bcast_S_S2x8448x6x128 main_cst_4
  let main_v13 : IVec S2x8448x6x128 1 := cmpf .olt main_arg2 main_v12
  let main_cst_5 : FVec F S_ .f32 := constant S_ .f32 0xFF800000#32
  let main_v14 : FVec F S2x8448x6x128 .f32 := broadcastInDim S2x8448x6x128 ![] bcast_S_S2x8448x6x128 main_cst_5
  let main_v15 : IVec S2x8448x6x128 1 := cmpf .ogt main_arg2 main_v14
  fn_part1 (F := F) main_arg3 main_arg4 main_arg5 main_arg6 main_v5 main_v11 main_v13 main_v15
-- ==== Pre_routed.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S40 32) (main_arg1 : IVec S40 32) (main_arg2 : IVec S1 32) (main_arg3 : FVec F S40960x2048 .bf16) (main_arg4 : FVec F S8x2048x5632 .f32) (main_arg5 : FVec F S8x2048x5632 .f32) (main_arg6 : FVec F S8x5632x2048 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 40#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S2x8448x6x2x64 : Shape := ⟨5, ![2, 8448, 6, 2, 64]⟩
abbrev S2x8448x6x128 : Shape := ⟨4, ![2, 8448, 6, 128]⟩
abbrev S64 : Shape := ⟨1, ![64]⟩
abbrev S128 : Shape := ⟨1, ![128]⟩
abbrev S2x8448x768 : Shape := ⟨3, ![2, 8448, 768]⟩
abbrev S_ : Shape := ⟨0, ![]⟩
abbrev S2x768x8448 : Shape := ⟨3, ![2, 768, 8448]⟩
abbrev S2x33x256x6x128 : Shape := ⟨5, ![2, 33, 256, 6, 128]⟩
abbrev S2x6x33x128x256 : Shape := ⟨5, ![2, 6, 33, 128, 256]⟩
abbrev S2x6x33x16x256 : Shape := ⟨5, ![2, 6, 33, 16, 256]⟩
abbrev S2x6x33x144x256 : Shape := ⟨5, ![2, 6, 33, 144, 256]⟩
abbrev S1x64 : Shape := ⟨2, ![1, 64]⟩
abbrev S4x64 : Shape := ⟨2, ![4, 64]⟩
abbrev S128x1 : Shape := ⟨2, ![128, 1]⟩
abbrev S2x8192x768 : Shape := ⟨3, ![2, 8192, 768]⟩
abbrev S1x128x256 : Shape := ⟨3, ![1, 128, 256]⟩
abbrev S1x8448x128 : Shape := ⟨3, ![1, 8448, 128]⟩
abbrev S1x1x33x144x256 : Shape := ⟨5, ![1, 1, 33, 144, 256]⟩
abbrev S1x256x128 : Shape := ⟨3, ![1, 256, 128]⟩
abbrev S1x512 : Shape := ⟨2, ![1, 512]⟩
abbrev S144x512 : Shape := ⟨2, ![144, 512]⟩
abbrev S768x512 : Shape := ⟨2, ![768, 512]⟩
abbrev S128x512 : Shape := ⟨2, ![128, 512]⟩
abbrev S128x256 : Shape := ⟨2, ![128, 256]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S1x1x1x144x256 : Shape := ⟨5, ![1, 1, 1, 144, 256]⟩
abbrev S144x256 : Shape := ⟨2, ![144, 256]⟩
abbrev S1 : Shape := ⟨1, ![1]⟩
abbrev S1x1 : Shape := ⟨2, ![1, 1]⟩

abbrev nBuf : Space → Nat
  | .hbm => 32
  | .vmem => 16
  | .smem => 0
  | _ => 0

abbrev bufTy : (tb : Table) → Fin (tcTables nBuf tb) → BufTy
  | .hbm, ⟨0, _⟩ => ⟨S2x8448x6x2x64, .f32⟩
  | .hbm, ⟨1, _⟩ => ⟨S2x8448x6x2x64, .f32⟩
  | .hbm, ⟨2, _⟩ => ⟨S2x8448x6x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x8448x768, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8448x768, .f32⟩
  | .hbm, ⟨14, _⟩ => ⟨S2x8448x768, .f32⟩
  | .hbm, ⟨15, _⟩ => ⟨S2x768x8448, .f32⟩
  | .hbm, ⟨16, _⟩ => ⟨S2x768x8448, .bf16⟩
  | .hbm, ⟨17, _⟩ => ⟨S2x8448x768, .f32⟩
  | .hbm, ⟨18, _⟩ => ⟨S2x8448x768, .bf16⟩
  | .hbm, ⟨19, _⟩ => ⟨S2x33x256x6x128, .f32⟩
  | .hbm, ⟨20, _⟩ => ⟨S2x6x33x128x256, .f32⟩
  | .hbm, ⟨21, _⟩ => ⟨S2x6x33x128x256, .bf16⟩
  | .hbm, ⟨22, _⟩ => ⟨S_, .bf16⟩
  | .hbm, ⟨23, _⟩ => ⟨S2x6x33x16x256, .bf16⟩
  | .hbm, ⟨24, _⟩ => ⟨S2x6x33x144x256, .bf16⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S4x64, .f32⟩
  | .hbm, ⟨30, _⟩ => ⟨S128x1, .f32⟩
  | .hbm, ⟨31, _⟩ => ⟨S2x8192x768, .bf16⟩
  | .local _ .vmem, ⟨0, _⟩ => ⟨S4x64, .f32⟩
  | .local _ .vmem, ⟨1, _⟩ => ⟨S1x128x256, .bf16⟩
  | .local _ .vmem, ⟨2, _⟩ => ⟨S1x128x256, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x1x33x144x256, .bf16⟩
  | .local _ .vmem, ⟨6, _⟩ => ⟨S1x1x33x144x256, .bf16⟩
  | .local _ .vmem, ⟨7, _⟩ => ⟨S128x1, .f32⟩
  | .local _ .vmem, ⟨8, _⟩ => ⟨S1x256x128, .bf16⟩
  | .local _ .vmem, ⟨9, _⟩ => ⟨S1x256x128, .bf16⟩
  | .local _ .vmem, ⟨10, _⟩ => ⟨S1x512, .f32⟩
  | .local _ .vmem, ⟨11, _⟩ => ⟨S144x512, .f32⟩
  | .local _ .vmem, ⟨12, _⟩ => ⟨S768x512, .f32⟩
  | .local _ .vmem, ⟨13, _⟩ => ⟨S768x512, .f32⟩
  | .local _ .vmem, ⟨14, _⟩ => ⟨S768x512, .f32⟩
  | .local _ .vmem, ⟨15, _⟩ => ⟨S128x512, .bf16⟩
  | _, _ => ⟨S2x8448x6x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 6, 32], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c0_i32_35 : BitVec 32 := 0#32
  c0_i32_35
def k0_mult5 : BitVec 32 :=
  let c256_i32_44 : BitVec 32 := 256#32
  c256_i32_44
def k0_mult6 : BitVec 32 :=
  let c512_i32_53 : BitVec 32 := 512#32
  c512_i32_53
def k0_mult7 : BitVec 32 :=
  let c768_i32 : BitVec 32 := 768#32
  c768_i32
def k0_mult8 : BitVec 32 :=
  let c1024_i32 : BitVec 32 := 1024#32
  c1024_i32
def k0_mult9 : BitVec 32 :=
  let c1280_i32 : BitVec 32 := 1280#32
  c1280_i32
def k0_mult10 : BitVec 32 :=
  let c768_i32_86 : BitVec 32 := 768#32
  c768_i32_86
def k0_mult11 : BitVec 32 :=
  let c1024_i32_95 : BitVec 32 := 1024#32
  c1024_i32_95
def k0_mult12 : BitVec 32 :=
  let c1280_i32_104 : BitVec 32 := 1280#32
  c1280_i32_104
def k0_mult13 : BitVec 32 :=
  let c1536_i32 : BitVec 32 := 1536#32
  c1536_i32
def k0_mult14 : BitVec 32 :=
  let c1792_i32 : BitVec 32 := 1792#32
  c1792_i32
def k0_mult15 : BitVec 32 :=
  let c2048_i32 : BitVec 32 := 2048#32
  c2048_i32
def k0_mult16 : BitVec 32 :=
  let c1536_i32_177 : BitVec 32 := 1536#32
  c1536_i32_177
def k0_mult17 : BitVec 32 :=
  let c1792_i32_194 : BitVec 32 := 1792#32
  c1792_i32_194
def k0_mult18 : BitVec 32 :=
  let c2048_i32_211 : BitVec 32 := 2048#32
  c2048_i32_211
def k0_mult19 : BitVec 32 :=
  let c2304_i32 : BitVec 32 := 2304#32
  c2304_i32
def k0_mult20 : BitVec 32 :=
  let c2560_i32 : BitVec 32 := 2560#32
  c2560_i32
def k0_mult21 : BitVec 32 :=
  let c2816_i32 : BitVec 32 := 2816#32
  c2816_i32
def k0_mult22 : BitVec 32 :=
  let c2304_i32_289 : BitVec 32 := 2304#32
  c2304_i32_289
def k0_mult23 : BitVec 32 :=
  let c2560_i32_306 : BitVec 32 := 2560#32
  c2560_i32_306
def k0_mult24 : BitVec 32 :=
  let c2816_i32_323 : BitVec 32 := 2816#32
  c2816_i32_323
def k0_mult25 : BitVec 32 :=
  let c3072_i32 : BitVec 32 := 3072#32
  c3072_i32
def k0_mult26 : BitVec 32 :=
  let c3328_i32 : BitVec 32 := 3328#32
  c3328_i32
def k0_mult27 : BitVec 32 :=
  let c3584_i32 : BitVec 32 := 3584#32
  c3584_i32
def k0_mult28 : BitVec 32 :=
  let c3072_i32_401 : BitVec 32 := 3072#32
  c3072_i32_401
def k0_mult29 : BitVec 32 :=
  let c3328_i32_418 : BitVec 32 := 3328#32
  c3328_i32_418
def k0_mult30 : BitVec 32 :=
  let c3584_i32_435 : BitVec 32 := 3584#32
  c3584_i32_435
def k0_mult31 : BitVec 32 :=
  let c3840_i32 : BitVec 32 := 3840#32
  c3840_i32
def k0_mult32 : BitVec 32 :=
  let c4096_i32 : BitVec 32 := 4096#32
  c4096_i32
def k0_mult33 : BitVec 32 :=
  let c4352_i32 : BitVec 32 := 4352#32
  c4352_i32
def k0_mult34 : BitVec 32 :=
  let c3840_i32_513 : BitVec 32 := 3840#32
  c3840_i32_513
def k0_mult35 : BitVec 32 :=
  let c4096_i32_530 : BitVec 32 := 4096#32
  c4096_i32_530
def k0_mult36 : BitVec 32 :=
  let c4352_i32_547 : BitVec 32 := 4352#32
  c4352_i32_547
def k0_mult37 : BitVec 32 :=
  let c4608_i32 : BitVec 32 := 4608#32
  c4608_i32
def k0_mult38 : BitVec 32 :=
  let c4864_i32 : BitVec 32 := 4864#32
  c4864_i32
def k0_mult39 : BitVec 32 :=
  let c5120_i32 : BitVec 32 := 5120#32
  c5120_i32
def k0_mult40 : BitVec 32 :=
  let c4608_i32_625 : BitVec 32 := 4608#32
  c4608_i32_625
def k0_mult41 : BitVec 32 :=
  let c4864_i32_642 : BitVec 32 := 4864#32
  c4864_i32_642
def k0_mult42 : BitVec 32 :=
  let c5120_i32_659 : BitVec 32 := 5120#32
  c5120_i32_659
def k0_mult43 : BitVec 32 :=
  let c5376_i32 : BitVec 32 := 5376#32
  c5376_i32
def k0_mult44 : BitVec 32 :=
  let c5632_i32 : BitVec 32 := 5632#32
  c5632_i32
def k0_mult45 : BitVec 32 :=
  let c5888_i32 : BitVec 32 := 5888#32
  c5888_i32
def k0_mult46 : BitVec 32 :=
  let c5376_i32_737 : BitVec 32 := 5376#32
  c5376_i32_737
def k0_mult47 : BitVec 32 :=
  let c5632_i32_754 : BitVec 32 := 5632#32
  c5632_i32_754
def k0_mult48 : BitVec 32 :=
  let c5888_i32_771 : BitVec 32 := 5888#32
  c5888_i32_771
def k0_mult49 : BitVec 32 :=
  let c6144_i32 : BitVec 32 := 6144#32
  c6144_i32
def k0_mult50 : BitVec 32 :=
  let c6400_i32 : BitVec 32 := 6400#32
  c6400_i32
def k0_mult51 : BitVec 32 :=
  let c6656_i32 : BitVec 32 := 6656#32
  c6656_i32
def k0_mult52 : BitVec 32 :=
  let c6144_i32_849 : BitVec 32 := 6144#32
  c6144_i32_849
def k0_mult53 : BitVec 32 :=
  let c6400_i32_866 : BitVec 32 := 6400#32
  c6400_i32_866
def k0_mult54 : BitVec 32 :=
  let c6656_i32_883 : BitVec 32 := 6656#32
  c6656_i32_883
def k0_mult55 : BitVec 32 :=
  let c6912_i32 : BitVec 32 := 6912#32
  c6912_i32
def k0_mult56 : BitVec 32 :=
  let c7168_i32 : BitVec 32 := 7168#32
  c7168_i32
def k0_mult57 : BitVec 32 :=
  let c7424_i32 : BitVec 32 := 7424#32
  c7424_i32
def k0_mult58 : BitVec 32 :=
  let c6912_i32_961 : BitVec 32 := 6912#32
  c6912_i32_961
def k0_mult59 : BitVec 32 :=
  let c7168_i32_978 : BitVec 32 := 7168#32
  c7168_i32_978
def k0_mult60 : BitVec 32 :=
  let c7424_i32_995 : BitVec 32 := 7424#32
  c7424_i32_995
def k0_mult61 : BitVec 32 :=
  let c7680_i32 : BitVec 32 := 7680#32
  c7680_i32
def k0_mult62 : BitVec 32 :=
  let c7936_i32 : BitVec 32 := 7936#32
  c7936_i32
def k0_mult63 : BitVec 32 :=
  let c8192_i32 : BitVec 32 := 8192#32
  c8192_i32
def k0_mult64 : BitVec 32 :=
  let c7680_i32_1073 : BitVec 32 := 7680#32
  c7680_i32_1073
def k0_mult65 : BitVec 32 :=
  let c7936_i32_1090 : BitVec 32 := 7936#32
  c7936_i32_1090
def k0_mult66 : BitVec 32 :=
  let c8192_i32_1107 : BitVec 32 := 8192#32
  c8192_i32_1107
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x33x144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8448x6x2x64 : Shape := ⟨5, ![2, 8448, 6, 2, 64]⟩
abbrev S2x8448x6x128 : Shape := ⟨4, ![2, 8448, 6, 128]⟩
abbrev S64 : Shape := ⟨1, ![64]⟩
abbrev S128 : Shape := ⟨1, ![128]⟩
abbrev S_ : Shape := ⟨0, ![]⟩
abbrev S2x8192x6x2x64 : Shape := ⟨5, ![2, 8192, 6, 2, 64]⟩
abbrev S2x6x2x8192x8448 : Shape := ⟨5, ![2, 6, 2, 8192, 8448]⟩
abbrev S2x6x2x8192 : Shape := ⟨4, ![2, 6, 2, 8192]⟩
abbrev S2x6x2x8192x1 : Shape := ⟨5, ![2, 6, 2, 8192, 1]⟩
abbrev S2x6x1x8192x8448 : Shape := ⟨5, ![2, 6, 1, 8192, 8448]⟩
abbrev S2x6x8192x8448 : Shape := ⟨4, ![2, 6, 8192, 8448]⟩
abbrev S2x6x128x8192 : Shape := ⟨4, ![2, 6, 128, 8192]⟩
abbrev S2x8192x6x128 : Shape := ⟨4, ![2, 8192, 6, 128]⟩
abbrev S2x8192x6 : Shape := ⟨3, ![2, 8192, 6]⟩
abbrev S2x8192x6x1 : Shape := ⟨4, ![2, 8192, 6, 1]⟩
abbrev S1x1x1x128 : Shape := ⟨4, ![1, 1, 1, 128]⟩
abbrev S2x8192x768 : Shape := ⟨3, ![2, 8192, 768]⟩

abbrev nBuf : Space → Nat
  | .hbm => 68
  | .vmem => 0
  | .smem => 0
  | _ => 0

abbrev bufTy : (tb : Table) → Fin (tcTables nBuf tb) → BufTy
  | .hbm, ⟨0, _⟩ => ⟨S2x8448x6x2x64, .f32⟩
  | .hbm, ⟨1, _⟩ => ⟨S2x8448x6x2x64, .f32⟩
  | .hbm, ⟨2, _⟩ => ⟨S2x8448x6x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x8192x6x2x64, .f32⟩
  | .hbm, ⟨20, _⟩ => ⟨S2x6x2x8192x8448, .f32⟩
  | .hbm, ⟨21, _⟩ => ⟨S_, .f32⟩
  | .hbm, ⟨22, _⟩ => ⟨S2x6x2x8192x8448, .f32⟩
  | .hbm, ⟨23, _⟩ => ⟨S2x6x2x8192x8448, .f32⟩
  | .hbm, ⟨24, _⟩ => ⟨S_, .f32⟩
  | .hbm, ⟨25, _⟩ => ⟨S2x6x2x8192, .f32⟩
  | .hbm, ⟨26, _⟩ => ⟨S_, .f32⟩
  | .hbm, ⟨27, _⟩ => ⟨S2x6x2x8192, .f32⟩
  | .hbm, ⟨28, _⟩ => ⟨S2x6x2x8192, .f32⟩
  | .hbm, ⟨29, _⟩ => ⟨S2x6x2x8192x1, .f32⟩
  | .hbm, ⟨30, _⟩ => ⟨S2x6x2x8192x8448, .f32⟩
  | .hbm, ⟨31, _⟩ => ⟨S2x6x2x8192x8448, .f32⟩
  | .hbm, ⟨32, _⟩ => ⟨S2x6x2x8192x8448, .f32⟩
  | .hbm, ⟨33, _⟩ => ⟨S_, .f32⟩
  | .hbm, ⟨34, _⟩ => ⟨S2x6x2x8192, .f32⟩
  | .hbm, ⟨35, _⟩ => ⟨S2x6x2x8192x1, .f32⟩
  | .hbm, ⟨36, _⟩ => ⟨S2x6x2x8192x8448, .f32⟩
  | .hbm, ⟨37, _⟩ => ⟨S2x6x2x8192x8448, .f32⟩
  | .hbm, ⟨38, _⟩ => ⟨S2x6x1x8192x8448, .f32⟩
  | .hbm, ⟨39, _⟩ => ⟨S2x6x8192x8448, .f32⟩
  | .hbm, ⟨40, _⟩ => ⟨S2x6x1x8192x8448, .f32⟩
  | .hbm, ⟨41, _⟩ => ⟨S2x6x8192x8448, .f32⟩
  | .hbm, ⟨42, _⟩ => ⟨S2x6x8192x8448, .f32⟩
  | .hbm, ⟨43, _⟩ => ⟨S2x6x8192x8448, .f32⟩
  | .hbm, ⟨44, _⟩ => ⟨S2x6x8192x8448, .f32⟩
  | .hbm, ⟨45, _⟩ => ⟨S2x6x128x8192, .f32⟩
  | .hbm, ⟨46, _⟩ => ⟨S2x8192x6x128, .f32⟩
  | .hbm, ⟨47, _⟩ => ⟨S2x8192x6x128, .f32⟩
  | .hbm, ⟨48, _⟩ => ⟨S_, .f32⟩
  | .hbm, ⟨49, _⟩ => ⟨S2x8192x6, .f32⟩
  | .hbm, ⟨50, _⟩ => ⟨S2x8192x6x1, .f32⟩
  | .hbm, ⟨51, _⟩ => ⟨S_, .f32⟩
  | .hbm, ⟨52, _⟩ => ⟨S2x8192x6x1, .f32⟩
  | .hbm, ⟨53, _⟩ => ⟨S2x8192x6x1, .f32⟩
  | .hbm, ⟨54, _⟩ => ⟨S_, .f32⟩
  | .hbm, ⟨55, _⟩ => ⟨S2x8192x6x1, .f32⟩
  | .hbm, ⟨56, _⟩ => ⟨S2x8192x6x1, .f32⟩
  | .hbm, ⟨57, _⟩ => ⟨S2x8192x6x1, .f32⟩
  | .hbm, ⟨58, _⟩ => ⟨S2x8192x6x128, .f32⟩
  | .hbm, ⟨59, _⟩ => ⟨S2x8192x6x128, .f32⟩
  | .hbm, ⟨60, _⟩ => ⟨S1x1x1x128, .f32⟩
  | .hbm, ⟨61, _⟩ => ⟨S2x8192x6x128, .f32⟩
  | .hbm, ⟨62, _⟩ => ⟨S2x8192x6x128, .f32⟩
  | .hbm, ⟨63, _⟩ => ⟨S_, .f32⟩
  | .hbm, ⟨64, _⟩ => ⟨S2x8192x6x128, .f32⟩
  | .hbm, ⟨65, _⟩ => ⟨S2x8192x6x128, .f32⟩
  | .hbm, ⟨66, _⟩ => ⟨S2x8192x768, .f32⟩
  | .hbm, ⟨67, _⟩ => ⟨S2x8192x768, .bf16⟩
  | _, _ => ⟨S2x8448x6x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel2.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S2048x256 : Shape := ⟨2, ![2048, 256]⟩
abbrev S1024x256 : Shape := ⟨2, ![1024, 256]⟩
abbrev S256x2048 : Shape := ⟨2, ![256, 2048]⟩
abbrev S512x2048 : Shape := ⟨2, ![512, 2048]⟩
abbrev S512x256 : Shape := ⟨2, ![512, 256]⟩

abbrev nBuf : Space → Nat
  | .hbm => 5
  | .vmem => 10
  | .smem => 3
  | _ => 0

abbrev bufTy : (tb : Table) → Fin (tcTables nBuf tb) → BufTy
  | .hbm, ⟨0, _⟩ => ⟨S40960x2048, .bf16⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S40960x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x2048, .f32⟩
  | .local _ .vmem, ⟨9, _⟩ => ⟨S1024x2048, .f32⟩
  | .local _ .smem, ⟨0, _⟩ => ⟨S40, .i32⟩
  | .local _ .smem, ⟨1, _⟩ => ⟨S40, .i32⟩
  | .local _ .smem, ⟨2, _⟩ => ⟨S1, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 22], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c512_i32 : BitVec 32 := 512#32
  let v5 : BitVec 1 := Scalar.cmpi .sgt v4 c512_i32
  let v6 : BitVec 32 := Scalar.extui v5
  let c0_i32_1 : BitVec 32 := 0#32
  let v7 : BitVec 1 := Scalar.cmpi .ne v6 c0_i32_1
  v7

def k0_cond3 (v4 : BitVec 32) : BitVec 1 :=
  let c0_i32_2 : BitVec 32 := 0#32
  let v8 : BitVec 1 := Scalar.cmpi .sgt v4 c0_i32_2
  let c512_i32_3 : BitVec 32 := 512#32
  let v9 : BitVec 1 := Scalar.cmpi .sle v4 c512_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S8x40960x2048 : Shape := ⟨3, ![8, 40960, 2048]⟩
abbrev S8x40960x5632 : Shape := ⟨3, ![8, 40960, 5632]⟩
abbrev S_ : Shape := ⟨0, ![]⟩
abbrev S40x1 : Shape := ⟨2, ![40, 1]⟩
abbrev S40x1024 : Shape := ⟨2, ![40, 1024]⟩
abbrev S40960 : Shape := ⟨1, ![40960]⟩
abbrev S1x40960x1 : Shape := ⟨3, ![1, 40960, 1]⟩

abbrev nBuf : Space → Nat
  | .hbm => 35
  | .vmem => 0
  | .smem => 0
  | _ => 0

abbrev bufTy : (tb : Table) → Fin (tcTables nBuf tb) → BufTy
  | .hbm, ⟨0, _⟩ => ⟨S40, .i32⟩
  | .hbm, ⟨1, _⟩ => ⟨S40, .i32⟩
  | .hbm, ⟨2, _⟩ => ⟨S1, .i32⟩
  | .hbm, ⟨3, _⟩ => ⟨S40960x2048, .bf16⟩
  | .hbm, ⟨4, _⟩ => ⟨S8x2048x5632, .f32⟩
  | .hbm, ⟨5, _⟩ => ⟨S8x2048x5632, .f32⟩
  | .hbm, ⟨6, _⟩ => ⟨S8x5632x2048, .f32⟩
  | .hbm, ⟨7, _⟩ => ⟨S40960x2048, .f32⟩
  | .hbm, ⟨8, _⟩ => ⟨S8x40960x2048, .f32⟩
  | .hbm, ⟨9, _⟩ => ⟨S8x40960x5632, .f32⟩
  | .hbm, ⟨10, _⟩ => ⟨S8x40960x5632, .f32⟩
  | .hbm, ⟨11, _⟩ => ⟨S8x40960x5632, .f32⟩
  | .hbm, ⟨12, _⟩ => ⟨S8x40960x5632, .f32⟩
  | .hbm, ⟨13, _⟩ => ⟨S_, .f32⟩
  | .hbm, ⟨14, _⟩ => ⟨S8x40960x5632, .f32⟩
  | .hbm, ⟨15, _⟩ => ⟨S8x40960x5632, .f32⟩
  | .hbm, ⟨16, _⟩ => ⟨S_, .f32⟩
  | .hbm, ⟨17, _⟩ => ⟨S8x40960x5632, .f32⟩
  | .hbm, ⟨18, _⟩ => ⟨S8x40960x5632, .f32⟩
  | .hbm, ⟨19, _⟩ => ⟨S8x40960x5632, .f32⟩
  | .hbm, ⟨20, _⟩ => ⟨S8x40960x5632, .f32⟩
  | .hbm, ⟨21, _⟩ => ⟨S8x40960x2048, .f32⟩
  | .hbm, ⟨22, _⟩ => ⟨S40x1, .i32⟩
  | .hbm, ⟨23, _⟩ => ⟨S40x1024, .i32⟩
  | .hbm, ⟨24, _⟩ => ⟨S40960, .i32⟩
  | .hbm, ⟨25, _⟩ => ⟨S1x40960x1, .i32⟩
  | .hbm, ⟨26, _⟩ => ⟨S8x40960x2048, .i32⟩
  | .hbm, ⟨27, _⟩ => ⟨S8x40960x2048, .i32⟩
  | .hbm, ⟨28, _⟩ => ⟨S8x40960x2048, .i1⟩
  | .hbm, ⟨29, _⟩ => ⟨S_, .f32⟩
  | .hbm, ⟨30, _⟩ => ⟨S_, .f32⟩
  | .hbm, ⟨31, _⟩ => ⟨S8x40960x2048, .f32⟩
  | .hbm, ⟨32, _⟩ => ⟨S8x40960x2048, .f32⟩
  | .hbm, ⟨33, _⟩ => ⟨S_, .f32⟩
  | .hbm, ⟨34, _⟩ => ⟨S40960x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Proof.Ops.lean ====
module

public import proofs.«01_k».proof.Proof.Gen.KernelIdeal.Frame
public import Idealize.ShloMosaic.Lib.Pipeline.ValueKit
public import Idealize.ShloMosaic.Lib.Pipeline.ReadBack

/-! The tensor operations the attention body repeats: scores of one key chunk, their column
maximum, the probabilities at a running maximum, and the two updates of one group of three
key chunks (the running maximum and the weighted sum). -/

@[expose] public section

open Cert.KernelIdeal Cert.KernelIdeal.Gen Idealize.ShloMosaic Idealize.ShloMosaic.TcCoe

namespace Diff

/-- Scores of one key chunk against one half of the queries. -/
noncomputable def scD (K : Vec Ideal S1x256x128 .bf16) (R : FVec Ideal S128x256 .bf16) :
    FVec Ideal S256x256 .f32 :=
  matmul dot_S256x128_S128x256_S256x256_1_0_0_1_n_n none
    (shapeCast S256x128 K shapeCasts_S1x256x128_S256x128 : FVec Ideal S256x128 .bf16) R
    (constant S256x256 .f32 0x00000000#32)

/-- The maximum of each column. -/
noncomputable def cmx (S : FVec Ideal S256x256 .f32) : FVec Ideal S1x256 .f32 :=
  shapeCast S1x256 (multiReduction .maximumf [0] S256 S 0xFF800000#32 reduces_S256x256_S256
    (.inl rfl) rfl : FVec Ideal S256 .f32) shapeCasts_S256_S1x256

/-- The weights `2 ^ (s - m)`. -/
noncomputable def prb (M : FVec Ideal S1x256 .f32) (S : FVec Ideal S256x256 .f32) :
    FVec Ideal S256x256 .bf16 :=
  exp2 (truncf .bf16 (subf S (broadcastTo S256x256 M broadcasts_S1x256_S256x256)) bitsLt_bf16_f32)

/-- Values of one chunk times its weights. -/
noncomputable def pvd (V : Vec Ideal S1x1x1x144x256 .bf16) (P : FVec Ideal S256x256 .bf16) :
    FVec Ideal S144x256 .f32 :=
  matmul dot_S144x256_S256x256_S144x256_1_0_0_1_n_n none
    (shapeCast S144x256 V shapeCasts_S1x1x1x144x256_S144x256 : FVec Ideal S144x256 .bf16) P
    (constant S144x256 .f32 0x00000000#32)

/-- The running maximum after one more group of three chunks. -/
noncomputable def mst (M : FVec Ideal S1x256 .f32) (R : FVec Ideal S128x256 .bf16)
    (Ka Kb Kc : Vec Ideal S1x256x128 .bf16) : FVec Ideal S1x256 .f32 :=
  maximumf M (maximumf (maximumf (cmx (scD Ka R)) (cmx (scD Kb R))) (cmx (scD Kc R)))

/-- The weighted sum after one more group of three chunks. -/
noncomputable def ast (M N : FVec Ideal S1x256 .f32) (A : FVec Ideal S144x256 .f32)
    (R : FVec Ideal S128x256 .bf16) (Ka Kb Kc : Vec Ideal S1x256x128 .bf16)
    (Va Vb Vc : Vec Ideal S1x1x1x144x256 .bf16) : FVec Ideal S144x256 .f32 :=
  addf (mulf (broadcastTo S144x256 (exp2 (subf M N)) broadcasts_S1x256_S144x256) A)
    (addf (addf (pvd Va (prb N (scD Ka R))) (pvd Vb (prb N (scD Kb R)))) (pvd Vc (prb N (scD Kc R))))

theorem scD_fold (K : Vec Ideal S1x256x128 .bf16) (R : FVec Ideal S128x256 .bf16) :
    matmul dot_S256x128_S128x256_S256x256_1_0_0_1_n_n none
      (shapeCast S256x128 K shapeCasts_S1x256x128_S256x128 : FVec Ideal S256x128 .bf16) R
      (constant S256x256 .f32 0x00000000#32) = scD K R := rfl

theorem cmx_fold (S : FVec Ideal S256x256 .f32) :
    (shapeCast S1x256 (multiReduction .maximumf (no_index [0]) S256 S 0xFF800000#32 reduces_S256x256_S256
      (.inl rfl) rfl : FVec Ideal S256 .f32) shapeCasts_S256_S1x256 : FVec Ideal S1x256 .f32) = cmx S := rfl

theorem prb_fold (M : FVec Ideal S1x256 .f32) (S : FVec Ideal S256x256 .f32) :
    exp2 (truncf .bf16 (subf S (broadcastTo S256x256 M broadcasts_S1x256_S256x256)) bitsLt_bf16_f32)
      = prb M S := rfl

theorem pvd_fold (V : Vec Ideal S1x1x1x144x256 .bf16) (P : FVec Ideal S256x256 .bf16) :
    matmul dot_S144x256_S256x256_S144x256_1_0_0_1_n_n none
      (shapeCast S144x256 V shapeCasts_S1x1x1x144x256_S144x256 : FVec Ideal S144x256 .bf16) P
      (constant S144x256 .f32 0x00000000#32) = pvd V P := rfl

theorem mst_fold (M : FVec Ideal S1x256 .f32) (R : FVec Ideal S128x256 .bf16)
    (Ka Kb Kc : Vec Ideal S1x256x128 .bf16) :
    maximumf M (maximumf (maximumf (cmx (scD Ka R)) (cmx (scD Kb R))) (cmx (scD Kc R)))
      = mst M R Ka Kb Kc := rfl

theorem ast_fold (M N : FVec Ideal S1x256 .f32) (A : FVec Ideal S144x256 .f32)
    (R : FVec Ideal S128x256 .bf16) (Ka Kb Kc : Vec Ideal S1x256x128 .bf16)
    (Va Vb Vc : Vec Ideal S1x1x1x144x256 .bf16) :
    addf (mulf (broadcastTo S144x256 (exp2 (subf M N)) broadcasts_S1x256_S144x256) A)
      (addf (addf (pvd Va (prb N (scD Ka R))) (pvd Vb (prb N (scD Kb R)))) (pvd Vc (prb N (scD Kc R))))
      = ast M N A R Ka Kb Kc Va Vb Vc := rfl

/-! Chunk `u` of the keys and of the values, of the blocks a grid point reads. -/

theorem inbK (u : ℕ) (h : u < 33) (a : Fin S1x8448x128.rank) :
    (![0, 256 * u, 0] : Fin 3 → ℕ) a + (![1, 256, 128] : Fin 3 → ℕ) a ≤ S1x8448x128.size a := by
  fin_cases a <;> simp [S1x8448x128] <;> omega

theorem inbV (u : ℕ) (h : u < 33) (a : Fin S1x1x33x144x256.rank) :
    (![0, 0, u, 0, 0] : Fin 5 → ℕ) a + (![1, 1, 1, 144, 256] : Fin 5 → ℕ) a ≤ S1x1x33x144x256.size a := by
  fin_cases a <;> simp [S1x1x33x144x256] <;> omega

/-- Chunk `u` of the keys: rows `256 u` to `256 u + 255`. -/
noncomputable def Kc (x : Vec Ideal S1x8448x128 .bf16) (u : ℕ) : Vec Ideal S1x256x128 .bf16 :=
  if h : u < 33 then View.ld (Val := Elt Ideal) (e' := .bf16) x (Rect.unit ![0, 256 * u, 0] ![1, 256, 128] (inbK u h)) else fun _ => 0

/-- Chunk `u` of the values. -/
noncomputable def Vc (x : Vec Ideal S1x1x33x144x256 .bf16) (u : ℕ) : Vec Ideal S1x1x1x144x256 .bf16 :=
  if h : u < 33 then View.ld (Val := Elt Ideal) (e' := .bf16) x (Rect.unit ![0, 0, u, 0, 0] ![1, 1, 1, 144, 256] (inbV u h)) else fun _ => 0

/-- The running maximum after `g` groups. -/
noncomputable def Mr (K : ℕ → Vec Ideal S1x256x128 .bf16) (R : FVec Ideal S128x256 .bf16) :
    ℕ → FVec Ideal S1x256 .f32
  | 0 => broadcast S1x256 (FloatOps.ofBits (F := Ideal) FTy.f32 0xF149F2CA#32)
  | g + 1 => mst (Mr K R g) R (K (3 * g)) (K (3 * g + 1)) (K (3 * g + 2))

/-- The weighted sum after `g` groups. -/
noncomputable def Ar (K : ℕ → Vec Ideal S1x256x128 .bf16) (V : ℕ → Vec Ideal S1x1x1x144x256 .bf16)
    (R : FVec Ideal S128x256 .bf16) : ℕ → FVec Ideal S144x256 .f32
  | 0 => broadcast S144x256 (FloatOps.ofBits (F := Ideal) FTy.f32 0x00000000#32)
  | g + 1 => ast (Mr K R g) (Mr K R (g + 1)) (Ar K V R g) R (K (3 * g)) (K (3 * g + 1)) (K (3 * g + 2))
      (V (3 * g)) (V (3 * g + 1)) (V (3 * g + 2))

/-- Two halves side by side. -/
def join (l r : FVec Ideal S144x256 .f32) : FVec Ideal S144x512 .f32 := fun y =>
  if h : (y 1).val < 256 then l (ix2 (⟨(y 0).val, (y 0).isLt⟩ : Fin 144) (⟨(y 1).val, h⟩ : Fin 256))
  else r (ix2 (⟨(y 0).val, (y 0).isLt⟩ : Fin 144)
    (⟨(y 1).val - 256, by have : (y 1).val < 512 := (y 1).isLt; omega⟩ : Fin 256))

theorem Kc_0 (x : Vec Ideal S1x8448x128 .bf16) (h) : View.ld (Val := Elt Ideal) (e' := .bf16) x (Rect.unit (s := S1x8448x128) ![0, 0, 0] ![1, 256, 128] h) = Kc x 0 := rfl
theorem Vc_0 (x : Vec Ideal S1x1x33x144x256 .bf16) (h) : View.ld (Val := Elt Ideal) (e' := .bf16) x (Rect.unit (s := S1x1x33x144x256) ![0, 0, 0, 0, 0] ![1, 1, 1, 144, 256] h) = Vc x 0 := rfl
theorem Kc_1 (x : Vec Ideal S1x8448x128 .bf16) (h) : View.ld (Val := Elt Ideal) (e' := .bf16) x (Rect.unit (s := S1x8448x128) ![0, 256, 0] ![1, 256, 128] h) = Kc x 1 := rfl
theorem Vc_1 (x : Vec Ideal S1x1x33x144x256 .bf16) (h) : View.ld (Val := Elt Ideal) (e' := .bf16) x (Rect.unit (s := S1x1x33x144x256) ![0, 0, 1, 0, 0] ![1, 1, 1, 144, 256] h) = Vc x 1 := rfl
theorem Kc_2 (x : Vec Ideal S1x8448x128 .bf16) (h) : View.ld (Val := Elt Ideal) (e' := .bf16) x (Rect.unit (s := S1x8448x128) ![0, 512, 0] ![1, 256, 128] h) = Kc x 2 := rfl
theorem Vc_2 (x : Vec Ideal S1x1x33x144x256 .bf16) (h) : View.ld (Val := Elt Ideal) (e' := .bf16) x (Rect.unit (s := S1x1x33x144x256) ![0, 0, 2, 0, 0] ![1, 1, 1, 144, 256] h) = Vc x 2 := rfl
theorem Kc_3 (x : Vec Ideal S1x8448x128 .bf16) (h) : View.ld (Val := Elt Ideal) (e' := .bf16) x (Rect.unit (s := S1x8448x128) ![0, 768, 0] ![1, 256, 128] h) = Kc x 3 := rfl
theorem Vc_3 (x : Vec Ideal S1x1x33x144x256 .bf16) (h) : View.ld (Val := Elt Ideal) (e' := .bf16) x (Rect.unit (s := S1x1x33x144x256) ![0, 0, 3, 0, 0] ![1, 1, 1, 144, 256] h) = Vc x 3 := rfl
theorem Kc_4 (x : Vec Ideal S1x8448x128 .bf16) (h) : View.ld (Val := Elt Ideal) (e' := .bf16) x (Rect.unit (s := S1x8448x128) ![0, 1024, 0] ![1, 256, 128] h) = Kc x 4 := rfl
theorem Vc_4 (x : Vec Ideal S1x1x33x144x256 .bf16) (h) : View.ld (Val := Elt Ideal) (e' := .bf16) x (Rect.unit (s := S1x1x33x144x256) ![0, 0, 4, 0, 0] ![1, 1, 1, 144, 256] h) = Vc x 4 := rfl
theorem Kc_5 (x : Vec Ideal S1x8448x128 .bf16) (h) : View.ld (Val := Elt Ideal) (e' := .bf16) x (Rect.unit (s := S1x8448x128) ![0, 1280, 0] ![1, 256, 128] h) = Kc x 5 := rfl
theorem Vc_5 (x : Vec Ideal S1x1x33x144x256 .bf16) (h) : View.ld (Val := Elt Ideal) (e' := .bf16) x (Rect.unit (s := S1x1x33x144x256) ![0, 0, 5, 0, 0] ![1, 1, 1, 144, 256] h) = Vc x 5 := rfl
theorem Kc_6 (x : Vec Ideal S1x8448x128 .bf16) (h) : View.ld (Val := Elt Ideal) (e' := .bf16) x (Rect.unit (s := S1x8448x128) ![0, 1536, 0] ![1, 256, 128] h) = Kc x 6 := rfl
theorem Vc_6 (x : Vec Ideal S1x1x33x144x256 .bf16) (h) : View.ld (Val := Elt Ideal) (e' := .bf16) x (Rect.unit (s := S1x1x33x144x256) ![0, 0, 6, 0, 0] ![1, 1, 1, 144, 256] h) = Vc x 6 := rfl
theorem Kc_7 (x : Vec Ideal S1x8448x128 .bf16) (h) : View.ld (Val := Elt Ideal) (e' := .bf16) x (Rect.unit (s := S1x8448x128) ![0, 1792, 0] ![1, 256, 128] h) = Kc x 7 := rfl
theorem Vc_7 (x : Vec Ideal S1x1x33x144x256 .bf16) (h) : View.ld (Val := Elt Ideal) (e' := .bf16) x (Rect.unit (s := S1x1x33x144x256) ![0, 0, 7, 0, 0] ![1, 1, 1, 144, 256] h) = Vc x 7 := rfl
theorem Kc_8 (x : Vec Ideal S1x8448x128 .bf16) (h) : View.ld (Val := Elt Ideal) (e' := .bf16) x (Rect.unit (s := S1x8448x128) ![0, 2048, 0] ![1, 256, 128] h) = Kc x 8 := rfl
theorem Vc_8 (x : Vec Ideal S1x1x33x144x256 .bf16) (h) : View.ld (Val := Elt Ideal) (e' := .bf16) x (Rect.unit (s := S1x1x33x144x256) ![0, 0, 8, 0, 0] ![1, 1, 1, 144, 256] h) = Vc x 8 := rfl
theorem Kc_9 (x : Vec Ideal S1x8448x128 .bf16) (h) : View.ld (Val := Elt Ideal) (e' := .bf16) x (Rect.unit (s := S1x8448x128) ![0, 2304, 0] ![1, 256, 128] h) = Kc x 9 := rfl
theorem Vc_9 (x : Vec Ideal S1x1x33x144x256 .bf16) (h) : View.ld (Val := Elt Ideal) (e' := .bf16) x (Rect.unit (s := S1x1x33x144x256) ![0, 0, 9, 0, 0] ![1, 1, 1, 144, 256] h) = Vc x 9 := rfl
theorem Kc_10 (x : Vec Ideal S1x8448x128 .bf16) (h) : View.ld (Val := Elt Ideal) (e' := .bf16) x (Rect.unit (s := S1x8448x128) ![0, 2560, 0] ![1, 256, 128] h) = Kc x 10 := rfl
theorem Vc_10 (x : Vec Ideal S1x1x33x144x256 .bf16) (h) : View.ld (Val := Elt Ideal) (e' := .bf16) x (Rect.unit (s := S1x1x33x144x256) ![0, 0, 10, 0, 0] ![1, 1, 1, 144, 256] h) = Vc x 10 := rfl
theorem Kc_11 (x : Vec Ideal S1x8448x128 .bf16) (h) : View.ld (Val := Elt Ideal) (e' := .bf16) x (Rect.unit (s := S1x8448x128) ![0, 2816, 0] ![1, 256, 128] h) = Kc x 11 := rfl
theorem Vc_11 (x : Vec Ideal S1x1x33x144x256 .bf16) (h) : View.ld (Val := Elt Ideal) (e' := .bf16) x (Rect.unit (s := S1x1x33x144x256) ![0, 0, 11, 0, 0] ![1, 1, 1, 144, 256] h) = Vc x 11 := rfl
theorem Kc_12 (x : Vec Ideal S1x8448x128 .bf16) (h) : View.ld (Val := Elt Ideal) (e' := .bf16) x (Rect.unit (s := S1x8448x128) ![0, 3072, 0] ![1, 256, 128] h) = Kc x 12 := rfl
theorem Vc_12 (x : Vec Ideal S1x1x33x144x256 .bf16) (h) : View.ld (Val := Elt Ideal) (e' := .bf16) x (Rect.unit (s := S1x1x33x144x256) ![0, 0, 12, 0, 0] ![1, 1, 1, 144, 256] h) = Vc x 12 := rfl
theorem Kc_13 (x : Vec Ideal S1x8448x128 .bf16) (h) : View.ld (Val := Elt Ideal) (e' := .bf16) x (Rect.unit (s := S1x8448x128) ![0, 3328, 0] ![1, 256, 128] h) = Kc x 13 := rfl
theorem Vc_13 (x : Vec Ideal S1x1x33x144x256 .bf16) (h) : View.ld (Val := Elt Ideal) (e' := .bf16) x (Rect.unit (s := S1x1x33x144x256) ![0, 0, 13, 0, 0] ![1, 1, 1, 144, 256] h) = Vc x 13 := rfl
theorem Kc_14 (x : Vec Ideal S1x8448x128 .bf16) (h) : View.ld (Val := Elt Ideal) (e' := .bf16) x (Rect.unit (s := S1x8448x128) ![0, 3584, 0] ![1, 256, 128] h) = Kc x 14 := rfl
theorem Vc_14 (x : Vec Ideal S1x1x33x144x256 .bf16) (h) : View.ld (Val := Elt Ideal) (e' := .bf16) x (Rect.unit (s := S1x1x33x144x256) ![0, 0, 14, 0, 0] ![1, 1, 1, 144, 256] h) = Vc x 14 := rfl
theorem Kc_15 (x : Vec Ideal S1x8448x128 .bf16) (h) : View.ld (Val := Elt Ideal) (e' := .bf16) x (Rect.unit (s := S1x8448x128) ![0, 3840, 0] ![1, 256, 128] h) = Kc x 15 := rfl
theorem Vc_15 (x : Vec Ideal S1x1x33x144x256 .bf16) (h) : View.ld (Val := Elt Ideal) (e' := .bf16) x (Rect.unit (s := S1x1x33x144x256) ![0, 0, 15, 0, 0] ![1, 1, 1, 144, 256] h) = Vc x 15 := rfl
theorem Kc_16 (x : Vec Ideal S1x8448x128 .bf16) (h) : View.ld (Val := Elt Ideal) (e' := .bf16) x (Rect.unit (s := S1x8448x128) ![0, 4096, 0] ![1, 256, 128] h) = Kc x 16 := rfl
theorem Vc_16 (x : Vec Ideal S1x1x33x144x256 .bf16) (h) : View.ld (Val := Elt Ideal) (e' := .bf16) x (Rect.unit (s := S1x1x33x144x256) ![0, 0, 16, 0, 0] ![1, 1, 1, 144, 256] h) = Vc x 16 := rfl
theorem Kc_17 (x : Vec Ideal S1x8448x128 .bf16) (h) : View.ld (Val := Elt Ideal) (e' := .bf16) x (Rect.unit (s := S1x8448x128) ![0, 4352, 0] ![1, 256, 128] h) = Kc x 17 := rfl
theorem Vc_17 (x : Vec Ideal S1x1x33x144x256 .bf16) (h) : View.ld (Val := Elt Ideal) (e' := .bf16) x (Rect.unit (s := S1x1x33x144x256) ![0, 0, 17, 0, 0] ![1, 1, 1, 144, 256] h) = Vc x 17 := rfl
theorem Kc_18 (x : Vec Ideal S1x8448x128 .bf16) (h) : View.ld (Val := Elt Ideal) (e' := .bf16) x (Rect.unit (s := S1x8448x128) ![0, 4608, 0] ![1, 256, 128] h) = Kc x 18 := rfl
theorem Vc_18 (x : Vec Ideal S1x1x33x144x256 .bf16) (h) : View.ld (Val := Elt Ideal) (e' := .bf16) x (Rect.unit (s := S1x1x33x144x256) ![0, 0, 18, 0, 0] ![1, 1, 1, 144, 256] h) = Vc x 18 := rfl
theorem Kc_19 (x : Vec Ideal S1x8448x128 .bf16) (h) : View.ld (Val := Elt Ideal) (e' := .bf16) x (Rect.unit (s := S1x8448x128) ![0, 4864, 0] ![1, 256, 128] h) = Kc x 19 := rfl
theorem Vc_19 (x : Vec Ideal S1x1x33x144x256 .bf16) (h) : View.ld (Val := Elt Ideal) (e' := .bf16) x (Rect.unit (s := S1x1x33x144x256) ![0, 0, 19, 0, 0] ![1, 1, 1, 144, 256] h) = Vc x 19 := rfl
theorem Kc_20 (x : Vec Ideal S1x8448x128 .bf16) (h) : View.ld (Val := Elt Ideal) (e' := .bf16) x (Rect.unit (s := S1x8448x128) ![0, 5120, 0] ![1, 256, 128] h) = Kc x 20 := rfl
theorem Vc_20 (x : Vec Ideal S1x1x33x144x256 .bf16) (h) : View.ld (Val := Elt Ideal) (e' := .bf16) x (Rect.unit (s := S1x1x33x144x256) ![0, 0, 20, 0, 0] ![1, 1, 1, 144, 256] h) = Vc x 20 := rfl
theorem Kc_21 (x : Vec Ideal S1x8448x128 .bf16) (h) : View.ld (Val := Elt Ideal) (e' := .bf16) x (Rect.unit (s := S1x8448x128) ![0, 5376, 0] ![1, 256, 128] h) = Kc x 21 := rfl
theorem Vc_21 (x : Vec Ideal S1x1x33x144x256 .bf16) (h) : View.ld (Val := Elt Ideal) (e' := .bf16) x (Rect.unit (s := S1x1x33x144x256) ![0, 0, 21, 0, 0] ![1, 1, 1, 144, 256] h) = Vc x 21 := rfl
theorem Kc_22 (x : Vec Ideal S1x8448x128 .bf16) (h) : View.ld (Val := Elt Ideal) (e' := .bf16) x (Rect.unit (s := S1x8448x128) ![0, 5632, 0] ![1, 256, 128] h) = Kc x 22 := rfl
theorem Vc_22 (x : Vec Ideal S1x1x33x144x256 .bf16) (h) : View.ld (Val := Elt Ideal) (e' := .bf16) x (Rect.unit (s := S1x1x33x144x256) ![0, 0, 22, 0, 0] ![1, 1, 1, 144, 256] h) = Vc x 22 := rfl
theorem Kc_23 (x : Vec Ideal S1x8448x128 .bf16) (h) : View.ld (Val := Elt Ideal) (e' := .bf16) x (Rect.unit (s := S1x8448x128) ![0, 5888, 0] ![1, 256, 128] h) = Kc x 23 := rfl
theorem Vc_23 (x : Vec Ideal S1x1x33x144x256 .bf16) (h) : View.ld (Val := Elt Ideal) (e' := .bf16) x (Rect.unit (s := S1x1x33x144x256) ![0, 0, 23, 0, 0] ![1, 1, 1, 144, 256] h) = Vc x 23 := rfl
theorem Kc_24 (x : Vec Ideal S1x8448x128 .bf16) (h) : View.ld (Val := Elt Ideal) (e' := .bf16) x (Rect.unit (s := S1x8448x128) ![0, 6144, 0] ![1, 256, 128] h) = Kc x 24 := rfl
theorem Vc_24 (x : Vec Ideal S1x1x33x144x256 .bf16) (h) : View.ld (Val := Elt Ideal) (e' := .bf16) x (Rect.unit (s := S1x1x33x144x256) ![0, 0, 24, 0, 0] ![1, 1, 1, 144, 256] h) = Vc x 24 := rfl
theorem Kc_25 (x : Vec Ideal S1x8448x128 .bf16) (h) : View.ld (Val := Elt Ideal) (e' := .bf16) x (Rect.unit (s := S1x8448x128) ![0, 6400, 0] ![1, 256, 128] h) = Kc x 25 := rfl
theorem Vc_25 (x : Vec Ideal S1x1x33x144x256 .bf16) (h) : View.ld (Val := Elt Ideal) (e' := .bf16) x (Rect.unit (s := S1x1x33x144x256) ![0, 0, 25, 0, 0] ![1, 1, 1, 144, 256] h) = Vc x 25 := rfl
theorem Kc_26 (x : Vec Ideal S1x8448x128 .bf16) (h) : View.ld (Val := Elt Ideal) (e' := .bf16) x (Rect.unit (s := S1x8448x128) ![0, 6656, 0] ![1, 256, 128] h) = Kc x 26 := rfl
theorem Vc_26 (x : Vec Ideal S1x1x33x144x256 .bf16) (h) : View.ld (Val := Elt Ideal) (e' := .bf16) x (Rect.unit (s := S1x1x33x144x256) ![0, 0, 26, 0, 0] ![1, 1, 1, 144, 256] h) = Vc x 26 := rfl
theorem Kc_27 (x : Vec Ideal S1x8448x128 .bf16) (h) : View.ld (Val := Elt Ideal) (e' := .bf16) x (Rect.unit (s := S1x8448x128) ![0, 6912, 0] ![1, 256, 128] h) = Kc x 27 := rfl
theorem Vc_27 (x : Vec Ideal S1x1x33x144x256 .bf16) (h) : View.ld (Val := Elt Ideal) (e' := .bf16) x (Rect.unit (s := S1x1x33x144x256) ![0, 0, 27, 0, 0] ![1, 1, 1, 144, 256] h) = Vc x 27 := rfl
theorem Kc_28 (x : Vec Ideal S1x8448x128 .bf16) (h) : View.ld (Val := Elt Ideal) (e' := .bf16) x (Rect.unit (s := S1x8448x128) ![0, 7168, 0] ![1, 256, 128] h) = Kc x 28 := rfl
theorem Vc_28 (x : Vec Ideal S1x1x33x144x256 .bf16) (h) : View.ld (Val := Elt Ideal) (e' := .bf16) x (Rect.unit (s := S1x1x33x144x256) ![0, 0, 28, 0, 0] ![1, 1, 1, 144, 256] h) = Vc x 28 := rfl
theorem Kc_29 (x : Vec Ideal S1x8448x128 .bf16) (h) : View.ld (Val := Elt Ideal) (e' := .bf16) x (Rect.unit (s := S1x8448x128) ![0, 7424, 0] ![1, 256, 128] h) = Kc x 29 := rfl
theorem Vc_29 (x : Vec Ideal S1x1x33x144x256 .bf16) (h) : View.ld (Val := Elt Ideal) (e' := .bf16) x (Rect.unit (s := S1x1x33x144x256) ![0, 0, 29, 0, 0] ![1, 1, 1, 144, 256] h) = Vc x 29 := rfl
theorem Kc_30 (x : Vec Ideal S1x8448x128 .bf16) (h) : View.ld (Val := Elt Ideal) (e' := .bf16) x (Rect.unit (s := S1x8448x128) ![0, 7680, 0] ![1, 256, 128] h) = Kc x 30 := rfl
theorem Vc_30 (x : Vec Ideal S1x1x33x144x256 .bf16) (h) : View.ld (Val := Elt Ideal) (e' := .bf16) x (Rect.unit (s := S1x1x33x144x256) ![0, 0, 30, 0, 0] ![1, 1, 1, 144, 256] h) = Vc x 30 := rfl
theorem Kc_31 (x : Vec Ideal S1x8448x128 .bf16) (h) : View.ld (Val := Elt Ideal) (e' := .bf16) x (Rect.unit (s := S1x8448x128) ![0, 7936, 0] ![1, 256, 128] h) = Kc x 31 := rfl
theorem Vc_31 (x : Vec Ideal S1x1x33x144x256 .bf16) (h) : View.ld (Val := Elt Ideal) (e' := .bf16) x (Rect.unit (s := S1x1x33x144x256) ![0, 0, 31, 0, 0] ![1, 1, 1, 144, 256] h) = Vc x 31 := rfl
theorem Kc_32 (x : Vec Ideal S1x8448x128 .bf16) (h) : View.ld (Val := Elt Ideal) (e' := .bf16) x (Rect.unit (s := S1x8448x128) ![0, 8192, 0] ![1, 256, 128] h) = Kc x 32 := rfl
theorem Vc_32 (x : Vec Ideal S1x1x33x144x256 .bf16) (h) : View.ld (Val := Elt Ideal) (e' := .bf16) x (Rect.unit (s := S1x1x33x144x256) ![0, 0, 32, 0, 0] ![1, 1, 1, 144, 256] h) = Vc x 32 := rfl
theorem Mr_1 (K : ℕ → Vec Ideal S1x256x128 .bf16) (R : FVec Ideal S128x256 .bf16) : mst (Mr K R 0) R (K 0) (K 1) (K 2) = Mr K R 1 := rfl
theorem Ar_1 (K : ℕ → Vec Ideal S1x256x128 .bf16) (V : ℕ → Vec Ideal S1x1x1x144x256 .bf16) (R : FVec Ideal S128x256 .bf16) : ast (Mr K R 0) (Mr K R 1) (Ar K V R 0) R (K 0) (K 1) (K 2) (V 0) (V 1) (V 2) = Ar K V R 1 := rfl
theorem Mr_2 (K : ℕ → Vec Ideal S1x256x128 .bf16) (R : FVec Ideal S128x256 .bf16) : mst (Mr K R 1) R (K 3) (K 4) (K 5) = Mr K R 2 := rfl
theorem Ar_2 (K : ℕ → Vec Ideal S1x256x128 .bf16) (V : ℕ → Vec Ideal S1x1x1x144x256 .bf16) (R : FVec Ideal S128x256 .bf16) : ast (Mr K R 1) (Mr K R 2) (Ar K V R 1) R (K 3) (K 4) (K 5) (V 3) (V 4) (V 5) = Ar K V R 2 := rfl
theorem Mr_3 (K : ℕ → Vec Ideal S1x256x128 .bf16) (R : FVec Ideal S128x256 .bf16) : mst (Mr K R 2) R (K 6) (K 7) (K 8) = Mr K R 3 := rfl
theorem Ar_3 (K : ℕ → Vec Ideal S1x256x128 .bf16) (V : ℕ → Vec Ideal S1x1x1x144x256 .bf16) (R : FVec Ideal S128x256 .bf16) : ast (Mr K R 2) (Mr K R 3) (Ar K V R 2) R (K 6) (K 7) (K 8) (V 6) (V 7) (V 8) = Ar K V R 3 := rfl
theorem Mr_4 (K : ℕ → Vec Ideal S1x256x128 .bf16) (R : FVec Ideal S128x256 .bf16) : mst (Mr K R 3) R (K 9) (K 10) (K 11) = Mr K R 4 := rfl
theorem Ar_4 (K : ℕ → Vec Ideal S1x256x128 .bf16) (V : ℕ → Vec Ideal S1x1x1x144x256 .bf16) (R : FVec Ideal S128x256 .bf16) : ast (Mr K R 3) (Mr K R 4) (Ar K V R 3) R (K 9) (K 10) (K 11) (V 9) (V 10) (V 11) = Ar K V R 4 := rfl
theorem Mr_5 (K : ℕ → Vec Ideal S1x256x128 .bf16) (R : FVec Ideal S128x256 .bf16) : mst (Mr K R 4) R (K 12) (K 13) (K 14) = Mr K R 5 := rfl
theorem Ar_5 (K : ℕ → Vec Ideal S1x256x128 .bf16) (V : ℕ → Vec Ideal S1x1x1x144x256 .bf16) (R : FVec Ideal S128x256 .bf16) : ast (Mr K R 4) (Mr K R 5) (Ar K V R 4) R (K 12) (K 13) (K 14) (V 12) (V 13) (V 14) = Ar K V R 5 := rfl
theorem Mr_6 (K : ℕ → Vec Ideal S1x256x128 .bf16) (R : FVec Ideal S128x256 .bf16) : mst (Mr K R 5) R (K 15) (K 16) (K 17) = Mr K R 6 := rfl
theorem Ar_6 (K : ℕ → Vec Ideal S1x256x128 .bf16) (V : ℕ → Vec Ideal S1x1x1x144x256 .bf16) (R : FVec Ideal S128x256 .bf16) : ast (Mr K R 5) (Mr K R 6) (Ar K V R 5) R (K 15) (K 16) (K 17) (V 15) (V 16) (V 17) = Ar K V R 6 := rfl
theorem Mr_7 (K : ℕ → Vec Ideal S1x256x128 .bf16) (R : FVec Ideal S128x256 .bf16) : mst (Mr K R 6) R (K 18) (K 19) (K 20) = Mr K R 7 := rfl
theorem Ar_7 (K : ℕ → Vec Ideal S1x256x128 .bf16) (V : ℕ → Vec Ideal S1x1x1x144x256 .bf16) (R : FVec Ideal S128x256 .bf16) : ast (Mr K R 6) (Mr K R 7) (Ar K V R 6) R (K 18) (K 19) (K 20) (V 18) (V 19) (V 20) = Ar K V R 7 := rfl
theorem Mr_8 (K : ℕ → Vec Ideal S1x256x128 .bf16) (R : FVec Ideal S128x256 .bf16) : mst (Mr K R 7) R (K 21) (K 22) (K 23) = Mr K R 8 := rfl
theorem Ar_8 (K : ℕ → Vec Ideal S1x256x128 .bf16) (V : ℕ → Vec Ideal S1x1x1x144x256 .bf16) (R : FVec Ideal S128x256 .bf16) : ast (Mr K R 7) (Mr K R 8) (Ar K V R 7) R (K 21) (K 22) (K 23) (V 21) (V 22) (V 23) = Ar K V R 8 := rfl
theorem Mr_9 (K : ℕ → Vec Ideal S1x256x128 .bf16) (R : FVec Ideal S128x256 .bf16) : mst (Mr K R 8) R (K 24) (K 25) (K 26) = Mr K R 9 := rfl
theorem Ar_9 (K : ℕ → Vec Ideal S1x256x128 .bf16) (V : ℕ → Vec Ideal S1x1x1x144x256 .bf16) (R : FVec Ideal S128x256 .bf16) : ast (Mr K R 8) (Mr K R 9) (Ar K V R 8) R (K 24) (K 25) (K 26) (V 24) (V 25) (V 26) = Ar K V R 9 := rfl
theorem Mr_10 (K : ℕ → Vec Ideal S1x256x128 .bf16) (R : FVec Ideal S128x256 .bf16) : mst (Mr K R 9) R (K 27) (K 28) (K 29) = Mr K R 10 := rfl
theorem Ar_10 (K : ℕ → Vec Ideal S1x256x128 .bf16) (V : ℕ → Vec Ideal S1x1x1x144x256 .bf16) (R : FVec Ideal S128x256 .bf16) : ast (Mr K R 9) (Mr K R 10) (Ar K V R 9) R (K 27) (K 28) (K 29) (V 27) (V 28) (V 29) = Ar K V R 10 := rfl
theorem Mr_11 (K : ℕ → Vec Ideal S1x256x128 .bf16) (R : FVec Ideal S128x256 .bf16) : mst (Mr K R 10) R (K 30) (K 31) (K 32) = Mr K R 11 := rfl
theorem Ar_11 (K : ℕ → Vec Ideal S1x256x128 .bf16) (V : ℕ → Vec Ideal S1x1x1x144x256 .bf16) (R : FVec Ideal S128x256 .bf16) : ast (Mr K R 10) (Mr K R 11) (Ar K V R 10) R (K 30) (K 31) (K 32) (V 30) (V 31) (V 32) = Ar K V R 11 := rfl
theorem M0_l (K : ℕ → Vec Ideal S1x256x128 .bf16) (R : FVec Ideal S128x256 .bf16) (h) :
    mst (View.ld (Val := Elt Ideal) (e' := .f32) (broadcast S1x512 (FloatOps.ofBits (F := Ideal) FTy.f32 0xF149F2CA#32)) (Rect.unit (s := S1x512) ![0, 0] ![1, 256] h)) R (K 0) (K 1) (K 2) = Mr K R 1 := rfl
theorem M0_r (K : ℕ → Vec Ideal S1x256x128 .bf16) (R : FVec Ideal S128x256 .bf16) (h) :
    mst (View.ld (Val := Elt Ideal) (e' := .f32) (broadcast S1x512 (FloatOps.ofBits (F := Ideal) FTy.f32 0xF149F2CA#32)) (Rect.unit (s := S1x512) ![0, 256] ![1, 256] h)) R (K 0) (K 1) (K 2) = Mr K R 1 := rfl
theorem A0_l (K : ℕ → Vec Ideal S1x256x128 .bf16) (V : ℕ → Vec Ideal S1x1x1x144x256 .bf16) (R : FVec Ideal S128x256 .bf16) (h h') :
    ast (View.ld (Val := Elt Ideal) (e' := .f32) (broadcast S1x512 (FloatOps.ofBits (F := Ideal) FTy.f32 0xF149F2CA#32)) (Rect.unit (s := S1x512) ![0, 0] ![1, 256] h)) (Mr K R 1)
      (View.ld (Val := Elt Ideal) (e' := .f32) (broadcast S144x512 (FloatOps.ofBits (F := Ideal) FTy.f32 0x00000000#32)) (Rect.unit (s := S144x512) ![0, 0] ![144, 256] h')) R (K 0) (K 1) (K 2) (V 0) (V 1) (V 2)
      = Ar K V R 1 := rfl
theorem A0_r (K : ℕ → Vec Ideal S1x256x128 .bf16) (V : ℕ → Vec Ideal S1x1x1x144x256 .bf16) (R : FVec Ideal S128x256 .bf16) (h h') :
    ast (View.ld (Val := Elt Ideal) (e' := .f32) (broadcast S1x512 (FloatOps.ofBits (F := Ideal) FTy.f32 0xF149F2CA#32)) (Rect.unit (s := S1x512) ![0, 256] ![1, 256] h)) (Mr K R 1)
      (View.ld (Val := Elt Ideal) (e' := .f32) (broadcast S144x512 (FloatOps.ofBits (F := Ideal) FTy.f32 0x00000000#32)) (Rect.unit (s := S144x512) ![0, 256] ![144, 256] h')) R (K 0) (K 1) (K 2) (V 0) (V 1) (V 2)
      = Ar K V R 1 := rfl

/-- A read of a buffer whose two halves were both written last reads the two written halves. -/
theorem readCov_join {sig : RefSig} {κ : Kind} {sp : Space} (v : View sig κ sp S144x512 .f32) (hr hl)
    (l r : FVec Ideal S144x256 .f32) (L : List (View.Piece (Elt Ideal) S144x512 .f32)) (B : Rect S144x512) :
    v.readCov (⟨Rect.unit (s := S144x512) ![0, 256] ![144, 256] hr, r⟩ :: ⟨Rect.unit (s := S144x512) ![0, 0] ![144, 256] hl, l⟩ :: L) B.toLoadRect
      = View.ld (Val := Elt Ideal) (e' := .f32) (join l r) B := by
  rw [View.readCov_eq_canon']
  funext j
  show View.canon (Val := Elt Ideal) (e := .f32) _ (B.emb j) = join l r (B.emb j)
  generalize B.emb j = y
  have h0 : (y 0).val < 144 := (y 0).isLt
  have h1 : (y 1).val < 512 := (y 1).isLt
  unfold join
  split
  · rename_i h
    have hy : y = (Rect.unit (s := S144x512) ![0, 0] ![144, 256] hl).emb
        (ix2 (⟨(y 0).val, h0⟩ : Fin 144) (⟨(y 1).val, h⟩ : Fin 256)) := by
      funext a
      fin_cases a <;> apply Fin.ext <;> simp [Rect.emb, Rect.unit]
    rw [View.canon_cons_of_not_mem]
    · conv_lhs => rw [hy]
      exact View.canon_cons_emb (Val := Elt Ideal) (e := .f32) (Rect.unit (s := S144x512) ![0, 0] ![144, 256] hl) l L _
    · intro hm
      have h2 : 256 ≤ (y 1).val := ((Rect.mem_set_unit (s := S144x512) (inb := hr)).mp hm 1).1
      omega
  · rename_i h
    have hy : y = (Rect.unit (s := S144x512) ![0, 256] ![144, 256] hr).emb
        (ix2 (⟨(y 0).val, h0⟩ : Fin 144) (⟨(y 1).val - 256, by omega⟩ : Fin 256)) := by
      funext a
      fin_cases a <;> apply Fin.ext <;> simp [Rect.emb, Rect.unit]
      omega
    conv_lhs => rw [hy]
    exact View.canon_cons_emb (Val := Elt Ideal) (e := .f32) (Rect.unit (s := S144x512) ![0, 256] ![144, 256] hr) r _ _

end Diff
-- ==== Proof.Body.lean ====
module

public import proofs.«01_k».proof.Proof.Ops

/-! What one grid point of the attention kernel leaves in its output block: the final
normalisation of the weighted sums of the two halves. -/

@[expose] public section

set_option maxRecDepth 16384
open Cert.KernelIdeal Cert.KernelIdeal.Gen Idealize.ShloMosaic Idealize.ShloMosaic.TcCoe Idealize.SL.Sem

namespace Diff

/-- The output block of one grid point, of its input blocks. -/
noncomputable def outF (x0 : Vec Ideal S4x64 .f32) (x1 : Vec Ideal S1x128x256 .bf16) (x2 : Vec Ideal S1x8448x128 .bf16)
    (x3 : Vec Ideal S1x1x33x144x256 .bf16) (x4 : Vec Ideal S128x1 .f32) : FVec Ideal S1x256x128 .bf16 :=
  k0_pay1
    (k0_pay338
      (View.ld (Val := Elt Ideal) (e' := .f32)
        (join (Ar (Kc x2) (Vc x3) (k0_pay4 x1) 11) (Ar (Kc x2) (Vc x3) (k0_pay5 x1) 11))
        (Rect.unit (s := S144x512) ![0, 0] ![128, 512] inb_S144x512_S128x512_0_0))
      (View.ld (Val := Elt Ideal) (e' := .f32)
        (join (Ar (Kc x2) (Vc x3) (k0_pay4 x1) 11) (Ar (Kc x2) (Vc x3) (k0_pay5 x1) 11))
        (Rect.unit (s := S144x512) ![128, 0] ![1, 512] inb_S144x512_S1x512_128_0)))
    (k0_pay341 (k0_pay340 x0)) (k0_pay342 (k0_pay339 x0)) x4

set_option maxHeartbeats 4000000 in
theorem outsAt_eq (m : (ℓ : Loc nD τ sig) → Buf (Elt Ideal) ℓ) (c : Dev nD) (t : Fin cfg0.N) :
    outsAt0 m c t = outF (iblk m c 0 t) (iblk m c 1 t) (iblk m c 2 t) (iblk m c 3 t) (iblk m c 4 t) := by
  unfold outsAt0
  frame_open
  simp (disch := decide) only [↓ readCov_join, ↓ View.readCov_skip, ↓ View.readCov_cons_toLoadRect, ↓ View.readCov_fill]
  simp only [k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161,
    k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201,
    k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231,
    k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251,
    k0_pay252, k0_pay253, k0_pay254, k0_pay255, k0_pay256, k0_pay257, k0_pay258, k0_pay259, k0_pay260, k0_pay261,
    k0_pay262, k0_pay263, k0_pay264, k0_pay265, k0_pay266, k0_pay267, k0_pay268, k0_pay269, k0_pay270, k0_pay271,
    k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301,
    k0_pay302, k0_pay303, k0_pay304, k0_pay305, k0_pay306, k0_pay307, k0_pay308, k0_pay309, k0_pay310, k0_pay311,
    k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331,
    k0_pay332, k0_pay333, k0_pay334, k0_pay335, k0_pay336, k0_pay337, shapeCast_self, scD_fold, cmx_fold, prb_fold, pvd_fold, mst_fold, ast_fold]
  frame_out
  simp only [Kc_0, Vc_0, Kc_1, Vc_1, Kc_2, Vc_2, Kc_3, Vc_3, Kc_4, Vc_4, Kc_5, Vc_5, Kc_6, Vc_6, Kc_7, Vc_7, Kc_8, Vc_8,
    Kc_9, Vc_9, Kc_10, Vc_10, Kc_11, Vc_11, Kc_12, Vc_12, Kc_13, Vc_13, Kc_14, Vc_14, Kc_15, Vc_15, Kc_16, Vc_16,
    Kc_17, Vc_17, Kc_18, Vc_18, Kc_19, Vc_19, Kc_20, Vc_20, Kc_21, Vc_21, Kc_22, Vc_22, Kc_23, Vc_23, Kc_24,
    Vc_24, Kc_25, Vc_25, Kc_26, Vc_26, Kc_27, Vc_27, Kc_28, Vc_28, Kc_29, Vc_29, Kc_30, Vc_30, Kc_31, Vc_31,
    Kc_32, Vc_32]
  simp only [M0_l, M0_r, A0_l, A0_r, Mr_2, Ar_2, Mr_3, Ar_3, Mr_4, Ar_4, Mr_5, Ar_5, Mr_6, Ar_6, Mr_7, Ar_7, Mr_8, Ar_8, Mr_9, Ar_9, Mr_10, Ar_10,
    Mr_11, Ar_11]
  rfl

end Diff
-- ==== Proof.OutAt.lean ====
module

public import proofs.«01_k».proof.Proof.Body
public import Idealize.ShloMosaic.Lib.Pointwise

/-! The output block of one grid point read at one entry. -/

@[expose] public section

set_option maxRecDepth 16384
open Cert.KernelIdeal Cert.KernelIdeal.Gen Idealize.ShloMosaic Idealize.ShloMosaic.TcCoe

namespace Diff

theorem join_l (l r : FVec Ideal S144x256 .f32) (e : Fin 144) (c : Fin 512) (h : c.val < 256) :
    join l r (ix2 e c) = l (ix2 e ⟨c.val, h⟩) := dif_pos h

theorem join_r (l r : FVec Ideal S144x256 .f32) (e : Fin 144) (c : Fin 512) (h : ¬ c.val < 256) :
    join l r (ix2 e c) = r (ix2 e ⟨c.val - 256, by omega⟩) := dif_neg h

/-- The output of one row, of the two attention outputs and λ. -/
noncomputable def rowF (od : Fin 128 → EReal) (g : EReal) (e : Fin 128) : EReal :=
  od e * Ideal.rsqrt (Ideal.div (∑ k : Fin 128, od k * od k) (Ideal.ofBits .f32 0x43000000#32)
    + Ideal.ofBits .f32 0x358637BD#32) * g * Ideal.ofBits .f32 0x3F4CCCCD#32

theorem out_at (x0 : Vec Ideal S4x64 .f32) (x1 : Vec Ideal S1x128x256 .bf16) (x2 : Vec Ideal S1x8448x128 .bf16)
    (x3 : Vec Ideal S1x1x33x144x256 .bf16) (x4 : Vec Ideal S128x1 .f32) (r : Fin 256) (e : Fin 128) :
    outF x0 x1 x2 x3 x4 (ix3 0 r e)
      = rowF (fun k => Ideal.div (Ar (Kc x2) (Vc x3) (k0_pay4 x1) 11 (ix2 ⟨k.val, by omega⟩ r))
            (Ar (Kc x2) (Vc x3) (k0_pay4 x1) 11 (ix2 128 r))
          - (Ideal.exp (∑ d : Fin 64, x0 (ix2 0 d) * x0 (ix2 1 d)) - Ideal.exp (∑ d : Fin 64, x0 (ix2 2 d) * x0 (ix2 3 d))
              + Ideal.ofBits .f32 0x3E4CCCCD#32)
            * Ideal.div (Ar (Kc x2) (Vc x3) (k0_pay5 x1) 11 (ix2 ⟨k.val, by omega⟩ r))
              (Ar (Kc x2) (Vc x3) (k0_pay5 x1) 11 (ix2 128 r))) (x4 (ix2 e 0)) e := by
  pointwise [outF, k0_pay1, k0_pay338, k0_pay339, k0_pay340, k0_pay341, k0_pay342, rowF, join]

theorem lt64 : ∀ d : Fin 128, IntOp.cmpi CmpIPredicate.slt (BitVec.ofNat 32 d.val) 64#32 = if d.val < 64 then 1#1 else 0#1 := by
  decide

theorem ge64 : ∀ d : Fin 128, IntOp.cmpi CmpIPredicate.sge (BitVec.ofNat 32 d.val) 64#32 = if d.val < 64 then 0#1 else 1#1 := by
  decide

theorem rha_at (x1 : Vec Ideal S1x128x256 .bf16) (d : Fin 128) (r : Fin 256) :
    k0_pay4 (F := Ideal) x1 (ix2 d r) = if d.val < 64 then x1 (ix3 0 d r) else 0 := by
  pointwise [k0_pay4, k0_pay2, k0_pay3]
  rw [lt64]
  split <;> rfl

theorem rhb_at (x1 : Vec Ideal S1x128x256 .bf16) (d : Fin 128) (r : Fin 256) :
    k0_pay5 (F := Ideal) x1 (ix2 d r) = if d.val < 64 then 0 else x1 (ix3 0 d r) := by
  pointwise [k0_pay5, k0_pay2, k0_pay3]
  rw [ge64]
  split <;> rfl

end Diff
-- ==== Proof.Blocks.lean ====
module

public import proofs.«01_k».proof.Proof.OutAt

/-! The arrays the host code prepares, and the blocks a grid point reads of them, at one entry. -/

@[expose] public section

set_option maxRecDepth 16384
open Cert.KernelIdeal Cert.KernelIdeal.Gen Idealize.ShloMosaic Idealize.ShloMosaic.TcCoe Idealize.SL.Sem

namespace Diff

variable (m : (ℓ : Loc nD τ sig) → Buf (Elt Ideal) ℓ)

/-- The entries of the arguments, at their types. -/
abbrev qA (c : Dev nD) : Vec Ideal S2x8448x6x2x64 .f32 := m (c, Proc.tc.devRef main_arg0)
abbrev kA (c : Dev nD) : Vec Ideal S2x8448x6x2x64 .f32 := m (c, Proc.tc.devRef main_arg1)
abbrev vA (c : Dev nD) : Vec Ideal S2x8448x6x128 .f32 := m (c, Proc.tc.devRef main_arg2)
abbrev l1 (c : Dev nD) : Vec Ideal S64 .f32 := m (c, Proc.tc.devRef main_arg3)
abbrev l2 (c : Dev nD) : Vec Ideal S64 .f32 := m (c, Proc.tc.devRef main_arg4)
abbrev l3 (c : Dev nD) : Vec Ideal S64 .f32 := m (c, Proc.tc.devRef main_arg5)
abbrev l4 (c : Dev nD) : Vec Ideal S64 .f32 := m (c, Proc.tc.devRef main_arg6)
abbrev gA (c : Dev nD) : Vec Ideal S128 .f32 := m (c, Proc.tc.devRef main_arg7)

/-- The scale of the queries. -/
noncomputable def kap : EReal := Ideal.div (Ideal.ofBits .f32 0x3E000000#32) (Ideal.log (Ideal.ofBits .f32 0x40000000#32))

theorem idx : ∀ t : Fin cfg0.N, win0_0.index t = ![0, 0]
    ∧ win0_1.index t = ![(grid0.coords t 0).val, (grid0.coords t 1).val, (grid0.coords t 2).val + 1]
    ∧ win0_2.index t = ![(grid0.coords t 0).val, 0, (grid0.coords t 1).val]
    ∧ win0_3.index t = ![(grid0.coords t 0).val, (grid0.coords t 1).val, 0, 0, 0]
    ∧ win0_4.index t = ![0, 0]
    ∧ win0_5.index t = ![(grid0.coords t 0).val, (grid0.coords t 2).val, (grid0.coords t 1).val] :=
  (by decide +kernel : ∀ t : Fin grid0.N, _)

theorem v6_at (c : Dev nD) (b : Fin 2) (w : Fin 768) (s : Fin 8448) :
    (V m c main_v6 (ix3 b w s) : EReal) = qA m c (ix5 b s ⟨w.val / 128, by omega⟩ ⟨w.val / 64 % 2, by omega⟩ ⟨w.val % 64, by omega⟩) * kap := by
  entry_read
  pointwise
  rfl

theorem v8_at (c : Dev nD) (b : Fin 2) (w : Fin 768) (s : Fin 8448) :
    (V m c main_v8 (ix3 b s w) : EReal) = kA m c (ix5 b s ⟨w.val / 128, by omega⟩ ⟨w.val / 64 % 2, by omega⟩ ⟨w.val % 64, by omega⟩) := by
  entry_read
  pointwise

theorem v13_at (c : Dev nD) (b : Fin 2) (h : Fin 6) (u : Fin 33) (e : Fin 144) (k : Fin 256) :
    (V m c main_v13 (ix5 b h u e k) : EReal) = if he : e.val < 128 then vA m c (ix4 b ⟨u.val * 256 + k.val, by omega⟩ h ⟨e.val, he⟩) else 1 := by
  entry_read
  pointwise

theorem v18_eq (c : Dev nD) : (V m c main_v18 : Vec Ideal S4x64 .f32) = concatenate S4x64 0 [⟨S1x64, (V m c main_v14 : Vec Ideal S1x64 .f32)⟩, ⟨S1x64, (V m c main_v15 : Vec Ideal S1x64 .f32)⟩, ⟨S1x64, (V m c main_v16 : Vec Ideal S1x64 .f32)⟩, ⟨S1x64, (V m c main_v17 : Vec Ideal S1x64 .f32)⟩] concatenates_S1x64_S1x64_S1x64_S1x64_S4x64_d0 := by
  rfl

theorem v14_at (c : Dev nD) (d : Fin 64) : (V m c main_v14 (ix2 0 d) : EReal) = l1 m c (ix1 d) := by
  entry_read
  pointwise

theorem v15_at (c : Dev nD) (d : Fin 64) : (V m c main_v15 (ix2 0 d) : EReal) = l2 m c (ix1 d) := by
  entry_read
  pointwise

theorem v16_at (c : Dev nD) (d : Fin 64) : (V m c main_v16 (ix2 0 d) : EReal) = l3 m c (ix1 d) := by
  entry_read
  pointwise

theorem v17_at (c : Dev nD) (d : Fin 64) : (V m c main_v17 (ix2 0 d) : EReal) = l4 m c (ix1 d) := by
  entry_read
  pointwise

theorem cat_at (a b c e : Vec Ideal S1x64 .f32) (d : Fin 64) :
   let x := concatenate S4x64 0 [⟨S1x64, a⟩, ⟨S1x64, b⟩, ⟨S1x64, c⟩, ⟨S1x64, e⟩] concatenates_S1x64_S1x64_S1x64_S1x64_S4x64_d0
   x (ix2 0 d) = a (ix2 0 d) ∧ x (ix2 1 d) = b (ix2 0 d) ∧ x (ix2 2 d) = c (ix2 0 d) ∧ x (ix2 3 d) = e (ix2 0 d) := by
  refine ⟨?_, ?_, ?_, ?_⟩
  · pointwise
  · pointwise
  · pointwise
  · pointwise

theorem v18_at (c : Dev nD) (d : Fin 64) : (V m c main_v18 (ix2 0 d) : EReal) = l1 m c (ix1 d)
    ∧ (V m c main_v18 (ix2 1 d) : EReal) = l2 m c (ix1 d)
    ∧ (V m c main_v18 (ix2 2 d) : EReal) = l3 m c (ix1 d)
    ∧ (V m c main_v18 (ix2 3 d) : EReal) = l4 m c (ix1 d) := by
  have h := v18_eq m c
  have k := cat_at (V m c main_v14) (V m c main_v15) (V m c main_v16) (V m c main_v17) d
  obtain ⟨k0, k1, k2, k3⟩ := k
  refine ⟨?_, ?_, ?_, ?_⟩
  · exact ((congrFun h _).trans k0).trans (v14_at m c d)
  · exact ((congrFun h _).trans k1).trans (v15_at m c d)
  · exact ((congrFun h _).trans k2).trans (v16_at m c d)
  · exact ((congrFun h _).trans k3).trans (v17_at m c d)

/-- The coordinates of a grid point: batch, head, tile of queries. -/
def tb (t : Fin cfg0.N) : Fin 2 := ⟨(grid0.coords t 0).val, (grid0.coords t 0).isLt⟩
def th (t : Fin cfg0.N) : Fin 6 := ⟨(grid0.coords t 1).val, (grid0.coords t 1).isLt⟩
def ti (t : Fin cfg0.N) : Fin 32 := ⟨(grid0.coords t 2).val, (grid0.coords t 2).isLt⟩

theorem blk0 (c : Dev nD) (t : Fin cfg0.N) (r : Fin 4) (d : Fin 64) :
    (iblk m c 0 t (ix2 r d) : EReal) = V m c main_v18 (ix2 r d) := by
  blk_ext [iblk, idx t]

theorem blk4 (c : Dev nD) (t : Fin cfg0.N) (e : Fin 128) :
    (iblk m c 4 t (ix2 e 0) : EReal) = V m c main_v19 (ix2 e 0) := by
  blk_ext [iblk, idx t]

theorem blk1 (c : Dev nD) (t : Fin cfg0.N) (d : Fin 128) (r : Fin 256) :
    (iblk m c 1 t (ix3 0 d r) : EReal) = V m c main_v6 (ix3 (tb t) ⟨(th t).val * 128 + d.val, by omega⟩ ⟨((ti t).val + 1) * 256 + r.val, by omega⟩) := by
  blk_ext [iblk, idx t, tb, th, ti]

theorem blk2 (c : Dev nD) (t : Fin cfg0.N) (d : Fin 128) (s : Fin 8448) :
    (iblk m c 2 t (ix3 0 s d) : EReal) = V m c main_v8 (ix3 (tb t) s ⟨(th t).val * 128 + d.val, by omega⟩) := by
  blk_ext [iblk, idx t, tb, th]

theorem blk3 (c : Dev nD) (t : Fin cfg0.N) (u : Fin 33) (e : Fin 144) (k : Fin 256) :
    (iblk m c 3 t (ix5 0 0 u e k) : EReal) = V m c main_v13 (ix5 (tb t) (th t) u e k) := by
  blk_ext [iblk, idx t, tb, th]

theorem v19_at (c : Dev nD) (e : Fin 128) : (V m c main_v19 (ix2 e 0) : EReal) = gA m c (ix1 e) := by
  entry_read
  pointwise

end Diff
-- ==== Proof.Elem.lean ====
module

public import proofs.«01_k».proof.Proof.Ops
public import Idealize.ShloMosaic.Lib.Pointwise

/-! The repeated tensor operations read at one entry. -/

@[expose] public section

set_option maxRecDepth 16384
open Cert.KernelIdeal Cert.KernelIdeal.Gen Idealize.ShloMosaic Idealize.ShloMosaic.TcCoe

namespace Diff

theorem scD_at (K : Vec Ideal S1x256x128 .bf16) (R : FVec Ideal S128x256 .bf16) (k : Fin 256) (c : Fin 256) :
    scD K R (ix2 k c) = ∑ d : Fin 128, K (ix3 0 k d) * R (ix2 d c) := by
  pointwise [scD]

theorem mst_at (M : FVec Ideal S1x256 .f32) (R : FVec Ideal S128x256 .bf16)
    (Ka Kb Kc : Vec Ideal S1x256x128 .bf16) (c : Fin 256) :
    mst M R Ka Kb Kc (ix2 0 c) = max (M (ix2 0 c))
      (max (max (Finset.univ.fold max (Ideal.ofBits .f32 0xFF800000#32) fun k : Fin 256 => scD Ka R (ix2 k c))
        (Finset.univ.fold max (Ideal.ofBits .f32 0xFF800000#32) fun k : Fin 256 => scD Kb R (ix2 k c)))
        (Finset.univ.fold max (Ideal.ofBits .f32 0xFF800000#32) fun k : Fin 256 => scD Kc R (ix2 k c))) := by
  pointwise [mst, cmx]

theorem pvd_at (V : Vec Ideal S1x1x1x144x256 .bf16) (M : FVec Ideal S1x256 .f32) (S : FVec Ideal S256x256 .f32)
    (e : Fin 144) (c : Fin 256) :
    pvd V (prb M S) (ix2 e c)
      = ∑ k : Fin 256, V (ix5 0 0 0 e k) * Ideal.exp2 (S (ix2 k c) - M (ix2 0 c)) := by
  pointwise [pvd, prb]
  rfl

theorem ast_at (M N : FVec Ideal S1x256 .f32) (A : FVec Ideal S144x256 .f32)
    (R : FVec Ideal S128x256 .bf16) (Ka Kb Kc : Vec Ideal S1x256x128 .bf16)
    (Va Vb Vc : Vec Ideal S1x1x1x144x256 .bf16) (e : Fin 144) (c : Fin 256) :
    ast M N A R Ka Kb Kc Va Vb Vc (ix2 e c)
      = Ideal.exp2 (M (ix2 0 c) - N (ix2 0 c)) * A (ix2 e c)
        + (pvd Va (prb N (scD Ka R)) (ix2 e c) + pvd Vb (prb N (scD Kb R)) (ix2 e c)
          + pvd Vc (prb N (scD Kc R)) (ix2 e c)) := by
  pointwise [ast]
  rfl

end Diff
-- ==== Proof.Online.lean ====
module

public import proofs.«01_k».proof.Proof.Elem

/-! The running maximum is a real number after every group, and the weighted sum after `g` groups is the sum
over the keys of those groups of `2 ^ (score - maximum)` times the value: the running maximum may be any real
number, so that nothing about maxima is needed. -/

@[expose] public section

set_option maxRecDepth 16384
open Cert.KernelIdeal Cert.KernelIdeal.Gen Idealize.ShloMosaic Idealize.ShloMosaic.TcCoe

namespace Diff

theorem coe_sum' {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fold_max_real {ι : Type*} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; simp
  | insert a s ha ih =>
    right
    rw [Finset.fold_insert ha]
    rcases ih with h | ⟨r, h⟩
    · exact ⟨f a, by rw [h]; simp⟩
    · exact ⟨max (f a) r, by rw [h]; exact (EReal.coe_strictMono.monotone.map_max).symm⟩

theorem max_real {x : EReal} {r : ℝ} (hx : x = ⊥ ∨ ∃ t : ℝ, x = t) : ∃ t : ℝ, max (r : EReal) x = t := by
  rcases hx with rfl | ⟨t, rfl⟩
  · exact ⟨r, by simp⟩
  · exact ⟨max r t, (EReal.coe_strictMono.monotone.map_max).symm⟩

theorem max_br {x y : EReal} (hx : x = ⊥ ∨ ∃ t : ℝ, x = t) (hy : y = ⊥ ∨ ∃ t : ℝ, y = t) :
    max x y = ⊥ ∨ ∃ t : ℝ, max x y = t := by
  rcases hx with rfl | ⟨t, rfl⟩
  · simpa using hy
  · exact .inr (max_real hy)

theorem mask_real : ∃ r : ℝ, Ideal.ofBits .f32 0xF149F2CA#32 = r := by
  refine ⟨(Ideal.ofBits .f32 0xF149F2CA#32).toReal, (EReal.coe_toReal ?_ ?_).symm⟩ <;> simp [Ideal.ofBits, Ideal.ieee]
  · rw [← EReal.coe_pow, ← EReal.coe_mul]; exact EReal.coe_ne_bot _
  · rw [← EReal.coe_pow, ← EReal.coe_mul]; exact EReal.coe_ne_top _

theorem neg_inf : Ideal.ofBits .f32 0xFF800000#32 = ⊥ := by
  simp [Ideal.ofBits, Ideal.ieee]

section
variable (K : ℕ → Vec Ideal S1x256x128 .bf16) (V : ℕ → Vec Ideal S1x1x1x144x256 .bf16)
  (R : FVec Ideal S128x256 .bf16) (c : Fin 256) (s : ℕ → Fin 256 → ℝ)
  (hs : ∀ u k, scD (K u) R (ix2 k c) = ((s u k : ℝ) : EReal))

include hs in
theorem Mr_real (g : ℕ) : ∃ r : ℝ, Mr K R g (ix2 0 c) = r := by
  induction g with
  | zero =>
    obtain ⟨r, hr⟩ := mask_real
    exact ⟨r, hr⟩
  | succ g ih =>
    obtain ⟨r, hr⟩ := ih
    have h : Mr K R (g + 1) (ix2 0 c) = _ := mst_at (Mr K R g) R (K (3 * g)) (K (3 * g + 1)) (K (3 * g + 2)) c
    rw [h, hr]
    refine max_real (max_br (max_br ?_ ?_) ?_) <;> simp only [hs, neg_inf] <;> exact fold_max_real _ _

variable (e : Fin 144) (v : ℕ → Fin 256 → ℝ) (hv : ∀ u k, V u (ix5 0 0 0 e k) = ((v u k : ℝ) : EReal))
  (μ : ℕ → ℝ) (hμ : ∀ g, Mr K R g (ix2 0 c) = ((μ g : ℝ) : EReal))

include hs hv in
theorem pvd_real (M : FVec Ideal S1x256 .f32) (m : ℝ) (hm : M (ix2 0 c) = (m : EReal)) (u : ℕ) :
    pvd (V u) (prb M (scD (K u) R)) (ix2 e c)
      = ((∑ k : Fin 256, v u k * (2 : ℝ) ^ (s u k - m) : ℝ) : EReal) := by
  rw [pvd_at, ← coe_sum']
  refine Finset.sum_congr rfl fun k _ => ?_
  rw [hs, hv, hm, ← EReal.coe_sub, Ideal.exp2_coe, ← EReal.coe_mul]
  rfl

include hs hv hμ in
theorem Ar_sum (g : ℕ) : Ar K V R g (ix2 e c)
    = ((∑ u ∈ Finset.range (3 * g), ∑ k : Fin 256, v u k * (2 : ℝ) ^ (s u k - μ g) : ℝ) : EReal) := by
  induction g with
  | zero =>
    have h : Ar K V R 0 (ix2 e c) = Ideal.ofBits .f32 0x00000000#32 := rfl
    rw [h]; simp [Ideal.ofBits, Ideal.ieee]
  | succ g ih =>
    have h : Ar K V R (g + 1) (ix2 e c) = _ := ast_at (Mr K R g) (Mr K R (g + 1)) (Ar K V R g) R (K (3 * g)) (K (3 * g + 1))
      (K (3 * g + 2)) (V (3 * g)) (V (3 * g + 1)) (V (3 * g + 2)) e c
    rw [h, ih, hμ g, hμ (g + 1), pvd_real K V R c s hs e v hv _ _ (hμ (g + 1)), pvd_real K V R c s hs e v hv _ _ (hμ (g + 1)),
      pvd_real K V R c s hs e v hv _ _ (hμ (g + 1)), ← EReal.coe_sub, Ideal.exp2_coe, ← EReal.coe_mul, ← EReal.coe_add,
      ← EReal.coe_add, ← EReal.coe_add]
    congr 1
    rw [show 3 * (g + 1) = 3 * g + 1 + 1 + 1 by ring, Finset.sum_range_succ, Finset.sum_range_succ, Finset.sum_range_succ,
      ← add_assoc, ← add_assoc]
    congr 3
    rw [Finset.mul_sum]
    refine Finset.sum_congr rfl fun u _ => ?_
    rw [Finset.mul_sum]
    refine Finset.sum_congr rfl fun k _ => ?_
    show (2 : ℝ) ^ (μ g - μ (g + 1)) * _ = _
    rw [mul_left_comm, ← Real.rpow_add two_pos]
    congr 2
    ring
end

end Diff
-- ==== Proof.Attend.lean ====
module

public import proofs.«01_k».proof.Proof.Online

/-! The quotient of the weighted sum by the sum of weights, after all groups of keys, is the softmax average. -/

@[expose] public section

set_option maxRecDepth 16384
open Cert.KernelIdeal Cert.KernelIdeal.Gen Idealize.ShloMosaic Idealize.ShloMosaic.TcCoe

namespace Diff

theorem range_sum (f : Fin 8448 → ℝ) :
    ∑ u ∈ Finset.range 33, ∑ k : Fin 256, (if h : u < 33 then f ⟨u * 256 + k.val, by omega⟩ else 0) = ∑ j, f j := by
  rw [Finset.sum_range fun u => ∑ k : Fin 256, (if h : u < 33 then f ⟨u * 256 + k.val, by omega⟩ else 0)]
  refine Eq.trans ?_ ((finProdFinEquiv (m := 33) (n := 256)).sum_comp fun j => f j)
  rw [Fintype.sum_prod_type]
  refine Finset.sum_congr rfl fun u _ => Finset.sum_congr rfl fun k _ => ?_
  rw [dif_pos u.isLt]
  congr 1
  apply Fin.ext
  simp [finProdFinEquiv]
  ring

theorem Kc_at (x : Vec Ideal S1x8448x128 .bf16) (u : ℕ) (h : u < 33) (k : Fin 256) (d : Fin 128) :
    Kc x u (ix3 0 k d) = x (ix3 0 ⟨u * 256 + k.val, by omega⟩ d) := by
  rw [Kc, dif_pos h, View.ld_unit_apply_of]
  intro a
  fin_cases a <;> simp
  ring

theorem Vc_at (x : Vec Ideal S1x1x33x144x256 .bf16) (u : ℕ) (h : u < 33) (e : Fin 144) (k : Fin 256) :
    Vc x u (ix5 0 0 0 e k) = x (ix5 0 0 ⟨u, h⟩ e k) := by
  rw [Vc, dif_pos h, View.ld_unit_apply_of]
  intro a
  fin_cases a <;> simp

/-- The score of a key, in the reals. -/
noncomputable def dotR (qq : Fin 128 → ℝ) (kk : Fin 128 → ℝ) : ℝ := ∑ d, kk d * qq d

section
variable (x2 : Vec Ideal S1x8448x128 .bf16) (x3 : Vec Ideal S1x1x33x144x256 .bf16) (R : FVec Ideal S128x256 .bf16)
  (c : Fin 256) (qq : Fin 128 → ℝ) (kk : Fin 8448 → Fin 128 → ℝ)
  (hR : ∀ d, R (ix2 d c) = ((qq d : ℝ) : EReal)) (hK : ∀ s d, x2 (ix3 0 s d) = ((kk s d : ℝ) : EReal))

include hR hK in
theorem score_real (u : ℕ) (k : Fin 256) : scD (Kc x2 u) R (ix2 k c)
    = (((if h : u < 33 then dotR qq (kk ⟨u * 256 + k.val, by omega⟩) else 0 : ℝ)) : EReal) := by
  rw [scD_at]
  by_cases h : u < 33
  · rw [dif_pos h, dotR, ← coe_sum']
    refine Finset.sum_congr rfl fun d _ => ?_
    rw [Kc_at x2 u h, hR, hK, EReal.coe_mul]
  · rw [dif_neg h, EReal.coe_zero]
    refine Finset.sum_eq_zero fun d _ => ?_
    rw [Kc, dif_neg h, zero_mul]

theorem val_real (e : Fin 144) (vv : Fin 8448 → ℝ)
    (hV : ∀ (u : Fin 33) (k : Fin 256), x3 (ix5 0 0 u e k) = ((vv ⟨u.val * 256 + k.val, by omega⟩ : ℝ) : EReal)) (u : ℕ) (k : Fin 256) :
    Vc x3 u (ix5 0 0 0 e k) = (((if h : u < 33 then vv ⟨u * 256 + k.val, by omega⟩ else 0 : ℝ)) : EReal) := by
  by_cases h : u < 33
  · rw [dif_pos h, Vc_at x3 u h, hV ⟨u, h⟩ k]
  · rw [dif_neg h, Vc, dif_neg h, EReal.coe_zero]

include hR hK in
theorem Ar_real : ∃ μ : ℝ, ∀ (e : Fin 144) (vv : Fin 8448 → ℝ),
    (∀ (u : Fin 33) (k : Fin 256), x3 (ix5 0 0 u e k) = ((vv ⟨u.val * 256 + k.val, by omega⟩ : ℝ) : EReal)) →
    Ar (Kc x2) (Vc x3) R 11 (ix2 e c) = (((∑ j, vv j * (2 : ℝ) ^ dotR qq (kk j)) * (2 : ℝ) ^ (-μ) : ℝ) : EReal) := by
  have hs := score_real x2 R c qq kk hR hK
  choose μ hμ using Mr_real (Kc x2) R c _ hs
  refine ⟨μ 11, fun e vv hV => ?_⟩
  rw [Ar_sum (Kc x2) (Vc x3) R c _ hs e _ (val_real x3 e vv hV) μ hμ 11, Finset.sum_mul,
    ← range_sum fun j => vv j * (2 : ℝ) ^ dotR qq (kk j) * (2 : ℝ) ^ (-μ 11)]
  congr 1
  refine Finset.sum_congr rfl fun u hu => Finset.sum_congr rfl fun k _ => ?_
  have h : u < 33 := Finset.mem_range.mp hu
  rw [dif_pos h, dif_pos h, dif_pos h, sub_eq_add_neg, Real.rpow_add two_pos, mul_assoc]

include hR hK in
theorem quot (e : Fin 144) (vv : Fin 8448 → ℝ)
    (hV : ∀ (u : Fin 33) (k : Fin 256), x3 (ix5 0 0 u e k) = ((vv ⟨u.val * 256 + k.val, by omega⟩ : ℝ) : EReal))
    (h1 : ∀ (u : Fin 33) (k : Fin 256), x3 (ix5 0 0 u 128 k) = 1) :
    Ideal.div (Ar (Kc x2) (Vc x3) R 11 (ix2 e c)) (Ar (Kc x2) (Vc x3) R 11 (ix2 128 c))
      = (((∑ j, vv j * (2 : ℝ) ^ dotR qq (kk j)) / (∑ j, (2 : ℝ) ^ dotR qq (kk j)) : ℝ) : EReal) := by
  obtain ⟨μ, h⟩ := Ar_real x2 x3 R c qq kk hR hK
  rw [h e vv hV, h 128 (fun _ => 1) (fun u k => by rw [h1, EReal.coe_one])]
  have hp : 0 < ∑ j : Fin 8448, (2 : ℝ) ^ dotR qq (kk j) :=
    Finset.sum_pos (fun j _ => Real.rpow_pos_of_pos two_pos _) ⟨0, Finset.mem_univ _⟩
  have hm : (0 : ℝ) < (2 : ℝ) ^ (-μ) := Real.rpow_pos_of_pos two_pos _
  simp only [one_mul]
  rw [Ideal.div_coe (mul_pos hp hm).ne', ← EReal.coe_mul]
  congr 1
  field_simp
end

end Diff
-- ==== Proof.RefAt.lean ====
module

public import proofs.«01_k».proof.Proof.Gen.ReferenceIdeal.Read
public import proofs.«01_k».proof.Proof.OutAt
public import proofs.«01_k».proof.Proof.Attend

/-! The reference, one operation at one entry at a time, and its softmax average in the reals. -/

@[expose] public section

set_option maxRecDepth 16384
open Cert.ReferenceIdeal Cert.ReferenceIdeal.Read Cert.ReferenceIdeal.Gen Idealize.ShloMosaic Idealize.ShloMosaic.TcCoe

namespace Diff

section
variable (x0 x1 : FVec Ideal S2x8448x6x2x64 .f32) (x2 : FVec Ideal S2x8448x6x128 .f32)
    (x3 x4 x5 x6 : FVec Ideal S64 .f32) (x7 : FVec Ideal S128 .f32)

theorem e8 (b : Fin 2) (s : Fin 8192) (h : Fin 6) (a : Fin 2) (d : Fin 64) :
    val_main_v8 (F := Ideal) x0 (ix5 b s h a d) = x0 (ix5 b ⟨256 + s.val, by omega⟩ h a d) := by
  pointwise [val_main_v8]

theorem e9 (b : Fin 2) (s : Fin 8192) (h : Fin 6) (a : Fin 2) (j : Fin 8448) :
    val_main_v9 (F := Ideal) x0 x1 (ix5 b h a s j)
      = ∑ d : Fin 64, val_main_v8 (F := Ideal) x0 (ix5 b s h a d) * x1 (ix5 b j h a d) := by
  pointwise [val_main_v9]

theorem e11 (b : Fin 2) (s : Fin 8192) (h : Fin 6) (a : Fin 2) (j : Fin 8448) :
    val_main_v11 (F := Ideal) x0 x1 (ix5 b h a s j)
      = val_main_v9 (F := Ideal) x0 x1 (ix5 b h a s j) * Ideal.ofBits .f32 0x3E000000#32 := by
  pointwise [val_main_v11, val_main_v10, val_main_cst_2]

theorem e12 (b : Fin 2) (s : Fin 8192) (h : Fin 6) (a : Fin 2) :
    val_main_v12 (F := Ideal) x0 x1 (ix4 b h a s)
      = Finset.fold max (Ideal.ofBits .f32 0xFF800000#32) (fun j : Fin 8448 => val_main_v11 (F := Ideal) x0 x1 (ix5 b h a s j)) Finset.univ := by
  pointwise [val_main_v12, val_main_cst_3]

theorem e14 (b : Fin 2) (s : Fin 8192) (h : Fin 6) (a : Fin 2) :
    val_main_v14 (F := Ideal) x0 x1 (ix4 b h a s)
      = max (Ideal.ofBits .f32 0xFF800000#32) (val_main_v12 (F := Ideal) x0 x1 (ix4 b h a s)) := by
  rw [val_main_v14_apply, val_main_v13_apply, val_main_cst_4_apply]
  generalize val_main_v12 (F := Ideal) x0 x1 (ix4 b h a s) = z
  rfl

theorem e18 (b : Fin 2) (s : Fin 8192) (h : Fin 6) (a : Fin 2) (j : Fin 8448) :
    val_main_v18 (F := Ideal) x0 x1 (ix5 b h a s j)
      = Ideal.exp (val_main_v11 (F := Ideal) x0 x1 (ix5 b h a s j) - val_main_v14 (F := Ideal) x0 x1 (ix4 b h a s)) := by
  pointwise [val_main_v18, val_main_v17, val_main_v16, val_main_v15]

theorem e19 (b : Fin 2) (s : Fin 8192) (h : Fin 6) (a : Fin 2) :
    val_main_v19 (F := Ideal) x0 x1 (ix4 b h a s)
      = ∑ j : Fin 8448, val_main_v18 (F := Ideal) x0 x1 (ix5 b h a s j) := by
  pointwise [val_main_v19, val_main_cst_5]

theorem e22 (b : Fin 2) (s : Fin 8192) (h : Fin 6) (a : Fin 2) (j : Fin 8448) :
    val_main_v22 (F := Ideal) x0 x1 (ix5 b h a s j)
      = Ideal.div (val_main_v18 (F := Ideal) x0 x1 (ix5 b h a s j)) (val_main_v19 (F := Ideal) x0 x1 (ix4 b h a s)) := by
  pointwise [val_main_v22, val_main_v21, val_main_v20]

theorem e7 : val_main_v7 (F := Ideal) x3 x4 x5 x6 ix0
      = Ideal.exp (val_main_v1 (F := Ideal) x3 x4 ix0) - Ideal.exp (val_main_v4 (F := Ideal) x5 x6 ix0) + Ideal.ofBits .f32 0x3E4CCCCD#32 := by
  pointwise [val_main_v7, val_main_v6, val_main_v5, val_main_v2, val_main_cst_1]

theorem e1 : val_main_v1 (F := Ideal) x3 x4 ix0 = ∑ d : Fin 64, x3 (ix1 d) * x4 (ix1 d) := by
  pointwise [val_main_v1, val_main_v0, val_main_cst]

theorem e4 : val_main_v4 (F := Ideal) x5 x6 ix0 = ∑ d : Fin 64, x5 (ix1 d) * x6 (ix1 d) := by
  pointwise [val_main_v4, val_main_v3, val_main_cst_0]

theorem e24 (b : Fin 2) (s : Fin 8192) (h : Fin 6) (j : Fin 8448) :
    val_main_v24 (F := Ideal) x0 x1 (ix4 b h s j) = val_main_v22 (F := Ideal) x0 x1 (ix5 b h 0 s j) := by
  pointwise [val_main_v24, val_main_v23]

theorem e26 (b : Fin 2) (s : Fin 8192) (h : Fin 6) (j : Fin 8448) :
    val_main_v26 (F := Ideal) x0 x1 (ix4 b h s j) = val_main_v22 (F := Ideal) x0 x1 (ix5 b h 1 s j) := by
  pointwise [val_main_v26, val_main_v25]

theorem e29 (b : Fin 2) (s : Fin 8192) (h : Fin 6) (j : Fin 8448) :
    val_main_v29 (F := Ideal) x0 x1 x3 x4 x5 x6 (ix4 b h s j)
      = val_main_v24 (F := Ideal) x0 x1 (ix4 b h s j)
        - val_main_v7 (F := Ideal) x3 x4 x5 x6 ix0 * val_main_v26 (F := Ideal) x0 x1 (ix4 b h s j) := by
  rw [val_main_v29_apply, val_main_v28_apply, val_main_v27_apply]
  have hz : idx_main_v27 (ix4 b h s j) = ix0 := by funext a; exact a.elim0
  rw [hz]
  generalize val_main_v24 (F := Ideal) x0 x1 (ix4 b h s j) = z
  generalize val_main_v26 (F := Ideal) x0 x1 (ix4 b h s j) = z
  generalize val_main_v7 (F := Ideal) x3 x4 x5 x6 ix0 = z
  rfl

theorem e31 (b : Fin 2) (s : Fin 8192) (h : Fin 6) (e : Fin 128) :
    val_main_v31 (F := Ideal) x0 x1 x2 x3 x4 x5 x6 (ix4 b s h e)
      = ∑ j : Fin 8448, x2 (ix4 b j h e) * val_main_v29 (F := Ideal) x0 x1 x3 x4 x5 x6 (ix4 b h s j) := by
  pointwise [val_main_v31, val_main_v30]

theorem e33 (b : Fin 2) (s : Fin 8192) (h : Fin 6) :
    val_main_v33 (F := Ideal) x0 x1 x2 x3 x4 x5 x6 (ix3 b s h)
      = ∑ e : Fin 128, val_main_v31 (F := Ideal) x0 x1 x2 x3 x4 x5 x6 (ix4 b s h e) * val_main_v31 (F := Ideal) x0 x1 x2 x3 x4 x5 x6 (ix4 b s h e) := by
  pointwise [val_main_v33, val_main_v32, val_main_cst_6]

theorem e39 (b : Fin 2) (s : Fin 8192) (h : Fin 6) :
    val_main_v39 (F := Ideal) x0 x1 x2 x3 x4 x5 x6 (ix4 b s h 0)
      = Ideal.rsqrt (Ideal.div (val_main_v33 (F := Ideal) x0 x1 x2 x3 x4 x5 x6 (ix3 b s h)) (Ideal.ofBits .f32 0x43000000#32)
        + Ideal.ofBits .f32 0x358637BD#32) := by
  pointwise [val_main_v39, val_main_v38, val_main_v37, val_main_v36, val_main_v35, val_main_v34, val_main_cst_7, val_main_cst_8]

theorem e46 (b : Fin 2) (s : Fin 8192) (h : Fin 6) (e : Fin 128) :
    val_main_v46 (F := Ideal) x0 x1 x2 x3 x4 x5 x6 x7 (ix4 b s h e)
      = val_main_v31 (F := Ideal) x0 x1 x2 x3 x4 x5 x6 (ix4 b s h e) * val_main_v39 (F := Ideal) x0 x1 x2 x3 x4 x5 x6 (ix4 b s h 0)
        * x7 (ix1 e) * Ideal.ofBits .f32 0x3F4CCCCD#32 := by
  pointwise [val_main_v46, val_main_v45, val_main_v44, val_main_v43, val_main_v42, val_main_v41, val_main_v40, val_main_cst_9]

theorem e48 (b : Fin 2) (s : Fin 8192) (h : Fin 6) (e : Fin 128) :
    val_main_v48 (F := Ideal) x0 x1 x2 x3 x4 x5 x6 x7 (ix3 b s ⟨h.val * 128 + e.val, by omega⟩)
      = val_main_v46 (F := Ideal) x0 x1 x2 x3 x4 x5 x6 x7 (ix4 b s h e) := by
  pointwise [val_main_v48, val_main_v47]
end

/-- The softmax average of `v` with the scores `x` over 8. -/
noncomputable def avg (x v : Fin 8448 → ℝ) : ℝ := (∑ j, v j * Real.exp (x j / 8)) / ∑ j, Real.exp (x j / 8)

theorem soft_real (x : Fin 8448 → ℝ) (r : ℝ) (j : Fin 8448) :
    Ideal.div ((Real.exp (x j / 8 - r) : ℝ) : EReal) ((∑ i, Real.exp (x i / 8 - r) : ℝ) : EReal)
      = ((Real.exp (x j / 8) / ∑ i, Real.exp (x i / 8) : ℝ) : EReal) := by
  have hp : 0 < ∑ i : Fin 8448, Real.exp (x i / 8) := Finset.sum_pos (fun i _ => Real.exp_pos _) ⟨0, Finset.mem_univ _⟩
  have hs : ∑ i : Fin 8448, Real.exp (x i / 8 - r) = (∑ i : Fin 8448, Real.exp (x i / 8)) * Real.exp (-r) := by
    rw [Finset.sum_mul]
    exact Finset.sum_congr rfl fun i _ => by rw [sub_eq_add_neg, Real.exp_add]
  have hm := Real.exp_pos (-r)
  rw [hs, Ideal.div_coe (mul_pos hp hm).ne', ← EReal.coe_mul, sub_eq_add_neg, Real.exp_add]
  congr 1
  field_simp

/-- The score of key `j` for query `s` in half `a` of head `h`. -/
noncomputable def scoreR (q k : S2x8448x6x2x64.Idx → ℝ) (b : Fin 2) (h : Fin 6) (a : Fin 2) (s : Fin 8448) (j : Fin 8448) : ℝ :=
  ∑ d : Fin 64, q (ix5 b s h a d) * k (ix5 b j h a d)

section
variable (q k : S2x8448x6x2x64.Idx → ℝ) (v : S2x8448x6x128.Idx → ℝ) (x3 x4 x5 x6 : FVec Ideal S64 .f32) (x7 : FVec Ideal S128 .f32)
  (b : Fin 2) (s : Fin 8192) (h : Fin 6)

theorem r11 (a : Fin 2) (j : Fin 8448) :
    val_main_v11 (F := Ideal) (fun i => ((q i : ℝ) : EReal)) (fun i => ((k i : ℝ) : EReal)) (ix5 b h a s j)
      = ((scoreR q k b h a ⟨256 + s.val, by omega⟩ j / 8 : ℝ) : EReal) := by
  rw [e11, e9]
  have hc : Ideal.ofBits .f32 0x3E000000#32 = ((1 / 8 : ℝ) : EReal) := by
    simp [Ideal.ofBits, Ideal.ieee]
    rw [← EReal.coe_mul]
    norm_num
  simp only [e8]
  have hy : ∀ y : ℝ, ((y / 8 : ℝ) : EReal) = (y : EReal) * ((1 / 8 : ℝ) : EReal) := fun y => by
    rw [← EReal.coe_mul]; congr 1; ring
  rw [hy, hc, scoreR, ← coe_sum']
  rfl

theorem r14 (a : Fin 2) : ∃ r : ℝ,
    val_main_v14 (F := Ideal) (fun i => ((q i : ℝ) : EReal)) (fun i => ((k i : ℝ) : EReal)) (ix4 b h a s) = (r : EReal) := by
  rw [e14, e12, neg_inf]
  simp only [r11]
  rcases fold_max_real Finset.univ fun j : Fin 8448 => scoreR q k b h a ⟨256 + s.val, by omega⟩ j / 8 with hb | ⟨r, hr⟩
  · exfalso
    have := (Finset.fold_max_le (⊥ : EReal) (f := fun j : Fin 8448 => ((scoreR q k b h a ⟨256 + s.val, by omega⟩ j / 8 : ℝ) : EReal)) (s := Finset.univ)).1 hb.le
    exact absurd (le_bot_iff.1 (this.2 0 (Finset.mem_univ _))) (EReal.coe_ne_bot _)
  · exact ⟨r, by rw [hr]; exact max_eq_right bot_le⟩

theorem r22 (a : Fin 2) (j : Fin 8448) :
    val_main_v22 (F := Ideal) (fun i => ((q i : ℝ) : EReal)) (fun i => ((k i : ℝ) : EReal)) (ix5 b h a s j)
      = ((Real.exp (scoreR q k b h a ⟨256 + s.val, by omega⟩ j / 8)
          / ∑ i, Real.exp (scoreR q k b h a ⟨256 + s.val, by omega⟩ i / 8) : ℝ) : EReal) := by
  obtain ⟨r, hr⟩ := r14 q k b s h a
  rw [e22, e19]
  simp only [e18, r11, hr, ← EReal.coe_sub, Ideal.exp_coe, coe_sum']
  exact soft_real _ r j

theorem r31 (l : ℝ) (hl : val_main_v7 (F := Ideal) x3 x4 x5 x6 ix0 = (l : EReal)) (e : Fin 128) :
    val_main_v31 (F := Ideal) (fun i => ((q i : ℝ) : EReal)) (fun i => ((k i : ℝ) : EReal)) (fun i => ((v i : ℝ) : EReal)) x3 x4 x5 x6 (ix4 b s h e)
      = ((avg (scoreR q k b h 0 ⟨256 + s.val, by omega⟩) (fun j => v (ix4 b j h e))
          - l * avg (scoreR q k b h 1 ⟨256 + s.val, by omega⟩) (fun j => v (ix4 b j h e)) : ℝ) : EReal) := by
  rw [e31]
  simp only [e29, e24, e26, r22, hl, ← EReal.coe_mul, ← EReal.coe_sub, coe_sum']
  congr 1
  simp only [avg, Finset.sum_div, Finset.mul_sum, ← Finset.sum_sub_distrib]
  exact Finset.sum_congr rfl fun j _ => by ring

theorem r48 (e : Fin 128) (x0 x1 : FVec Ideal S2x8448x6x2x64 .f32) (x2 : FVec Ideal S2x8448x6x128 .f32) :
    val_main_v48 (F := Ideal) x0 x1 x2 x3 x4 x5 x6 x7 (ix3 b s ⟨h.val * 128 + e.val, by omega⟩)
      = rowF (fun e => val_main_v31 (F := Ideal) x0 x1 x2 x3 x4 x5 x6 (ix4 b s h e)) (x7 (ix1 e)) e := by
  rw [e48, e46, e39, e33]
  rfl
end

end Diff
-- ==== Proof.Final.lean ====
module

public import proofs.«01_k».proof.Proof.Gen.KernelIdeal.Value
public import proofs.«01_k».proof.Proof.Body
public import proofs.«01_k».proof.Proof.Blocks
public import proofs.«01_k».proof.Proof.RefAt

/-! The result array of the kernel, in the reals, and the reference's. -/

@[expose] public section

set_option maxRecDepth 16384
open Cert.KernelIdeal Cert.KernelIdeal.Gen Idealize.ShloMosaic Idealize.ShloMosaic.TcCoe Idealize.SL.Sem

namespace Diff

/-- The scale of the queries, in the reals. -/
noncomputable def kr : ℝ := 1 / 8 * (1 / Real.log 2)

theorem kap_real : kap = ((kr : ℝ) : EReal) := by
  have h2 : Ideal.ofBits .f32 0x40000000#32 = ((2 : ℝ) : EReal) := by
    simp [Ideal.ofBits, Ideal.ieee]
    rw [← EReal.coe_mul]
    norm_num
  have h8 : Ideal.ofBits .f32 0x3E000000#32 = ((1 / 8 : ℝ) : EReal) := by
    simp [Ideal.ofBits, Ideal.ieee]
    rw [← EReal.coe_mul]
    norm_num
  have hl : Real.log 2 ≠ 0 := (Real.log_pos one_lt_two).ne'
  rw [kap, h2, h8, Ideal.log_coe, if_neg (by norm_num), Ideal.div_coe hl, ← EReal.coe_mul]
  rfl

theorem pow_exp (x : ℝ) : (2 : ℝ) ^ (x * kr) = Real.exp (x / 8) := by
  have hl : Real.log 2 ≠ 0 := (Real.log_pos one_lt_two).ne'
  rw [Real.rpow_def_of_pos two_pos, kr]
  congr 1
  field_simp

theorem dot_half (f : Fin 64 → ℝ) (g : Fin 2 → Fin 64 → ℝ) (a : Fin 2) :
    dotR (fun d => if d.val / 64 = a.val then f ⟨d.val % 64, by omega⟩ * kr else 0)
      (fun d => g ⟨d.val / 64, by omega⟩ ⟨d.val % 64, by omega⟩) = (∑ d, f d * g a d) * kr := by
  have hsplit := Fin.sum_univ_add (a := 64) (b := 64) fun d : Fin 128 =>
    g ⟨d.val / 64, by omega⟩ ⟨d.val % 64, by omega⟩ * (if d.val / 64 = a.val then f ⟨d.val % 64, by omega⟩ * kr else 0)
  rw [dotR]
  refine hsplit.trans ?_
  have h0 : ∀ i : Fin 64, i.val / 64 = 0 := fun i => by omega
  have h1 : ∀ i : Fin 64, (64 + i.val) / 64 = 1 := fun i => by omega
  have m0 : ∀ i : Fin 64, i.val % 64 = i.val := fun i => by omega
  have m1 : ∀ i : Fin 64, (64 + i.val) % 64 = i.val := fun i => by omega
  simp only [Fin.val_castAdd, Fin.val_natAdd, h0, h1, m0, m1]
  fin_cases a
  · simp [Finset.sum_mul]
    exact Finset.sum_congr rfl fun d _ => by ring
  · simp [Finset.sum_mul]
    exact Finset.sum_congr rfl fun d _ => by ring

section
variable (m : (ℓ : Loc nD τ sig) → Buf (Elt Ideal) ℓ) (c : Dev nD) (t : Fin cfg0.N)
  (q k : S2x8448x6x2x64.Idx → ℝ) (v : S2x8448x6x128.Idx → ℝ)
  (hq : qA m c = fun i => ((q i : ℝ) : EReal)) (hk : kA m c = fun i => ((k i : ℝ) : EReal))
  (hv : vA m c = fun i => ((v i : ℝ) : EReal))

/-- The position of query `r` of the tile among the latent tokens. -/
def sp (r : Fin 256) : Fin 8192 := ⟨(ti t).val * 256 + r.val, by omega⟩

include hq in
theorem q_real (d : Fin 128) (r : Fin 256) : (iblk m c 1 t (ix3 0 d r) : EReal)
    = ((q (ix5 (tb t) ⟨256 + (sp t r).val, by omega⟩ (th t) ⟨d.val / 64, by omega⟩ ⟨d.val % 64, by omega⟩) * kr : ℝ) : EReal) := by
  rw [blk1, v6_at, hq, kap_real, EReal.coe_mul]
  congr 3 <;> (apply Fin.ext; dsimp only [sp]; omega)

include hk in
theorem k_real (j : Fin 8448) (d : Fin 128) : (iblk m c 2 t (ix3 0 j d) : EReal)
    = ((k (ix5 (tb t) j (th t) ⟨d.val / 64, by omega⟩ ⟨d.val % 64, by omega⟩) : ℝ) : EReal) := by
  rw [blk2, v8_at, hk]
  congr 2 <;> (apply Fin.ext; dsimp only; omega)

include hv in
theorem v_real (e : Fin 128) (u : Fin 33) (i : Fin 256) : (iblk m c 3 t (ix5 0 0 u ⟨e.val, by omega⟩ i) : EReal)
    = ((v (ix4 (tb t) ⟨u.val * 256 + i.val, by omega⟩ (th t) e) : ℝ) : EReal) := by
  rw [blk3, v13_at, dif_pos e.isLt, hv]

theorem one_real (u : Fin 33) (i : Fin 256) : iblk m c 3 t (ix5 0 0 u 128 i) = (1 : EReal) := by
  rw [blk3, v13_at, dif_neg (by decide)]

/-- The half `a` of the queries, in the reals. -/
noncomputable def qh (a : Fin 2) (r : Fin 256) (d : Fin 128) : ℝ :=
  if d.val / 64 = a.val then q (ix5 (tb t) ⟨256 + (sp t r).val, by omega⟩ (th t) a ⟨d.val % 64, by omega⟩) * kr else 0

include hq in
theorem ra_real (d : Fin 128) (r : Fin 256) : k0_pay4 (F := Ideal) (iblk m c 1 t) (ix2 d r) = ((qh t q 0 r d : ℝ) : EReal) := by
  rw [rha_at, qh]
  by_cases h : d.val < 64
  · have e : d.val / 64 = 0 := by omega
    rw [if_pos h, if_pos (by simpa using e), q_real m c t q hq]
    simp only [e]
    rfl
  · rw [if_neg h, if_neg (by simp; omega), EReal.coe_zero]

include hq in
theorem rb_real (d : Fin 128) (r : Fin 256) : k0_pay5 (F := Ideal) (iblk m c 1 t) (ix2 d r) = ((qh t q 1 r d : ℝ) : EReal) := by
  rw [rhb_at, qh]
  by_cases h : d.val < 64
  · rw [if_pos h, if_neg (by simp; omega), EReal.coe_zero]
  · have e : d.val / 64 = 1 := by omega
    rw [if_neg h, if_pos (by simpa using e), q_real m c t q hq]
    simp only [e]
    rfl

include hk hv in
theorem quot_avg (a : Fin 2) (r : Fin 256) (e : Fin 128) (R : FVec Ideal S128x256 .bf16)
    (hR : ∀ d, R (ix2 d r) = ((qh t q a r d : ℝ) : EReal)) :
    Ideal.div (Ar (Kc (iblk m c 2 t)) (Vc (iblk m c 3 t)) R 11 (ix2 ⟨e.val, by omega⟩ r))
        (Ar (Kc (iblk m c 2 t)) (Vc (iblk m c 3 t)) R 11 (ix2 128 r))
      = ((avg (scoreR q k (tb t) (th t) a ⟨256 + (sp t r).val, by omega⟩) (fun j => v (ix4 (tb t) j (th t) e)) : ℝ) : EReal) := by
  rw [quot (iblk m c 2 t) (iblk m c 3 t) R r (qh t q a r)
    (fun j d => k (ix5 (tb t) j (th t) ⟨d.val / 64, by omega⟩ ⟨d.val % 64, by omega⟩)) hR (k_real m c t k hk) _
    (fun j => v (ix4 (tb t) j (th t) e)) (v_real m c t v hv e) (one_real m c t)]
  have hd : ∀ j, (2 : ℝ) ^ dotR (qh t q a r) (fun d => k (ix5 (tb t) j (th t) ⟨d.val / 64, by omega⟩ ⟨d.val % 64, by omega⟩))
      = Real.exp (scoreR q k (tb t) (th t) a ⟨256 + (sp t r).val, by omega⟩ j / 8) := fun j => by
    have := dot_half (fun d => q (ix5 (tb t) ⟨256 + (sp t r).val, by omega⟩ (th t) a d)) (fun a d => k (ix5 (tb t) j (th t) a d)) a
    rw [← pow_exp]
    exact congrArg (fun x : ℝ => (2 : ℝ) ^ x) this
  simp only [hd]
  rfl
end

end Diff
-- ==== Proof.Bridge.lean ====
module

public import proofs.«01_k».proof.Proof.Final

/-! The result array of the kernel is the reference's. -/

@[expose] public section

set_option maxRecDepth 16384
open Cert.KernelIdeal Cert.KernelIdeal.Gen Idealize.ShloMosaic Idealize.ShloMosaic.TcCoe Idealize.SL.Sem

namespace Diff

/-- The reference's result over the kernel's arguments. -/
noncomputable abbrev REF (x0 x1 : FVec Ideal S2x8448x6x2x64 .f32) (x2 : FVec Ideal S2x8448x6x128 .f32)
    (x3 x4 x5 x6 : FVec Ideal S64 .f32) (x7 : FVec Ideal S128 .f32) : FVec Ideal S2x8192x768 .bf16 :=
  Cert.ReferenceIdeal.Read.val_main_v48 (F := Ideal) x0 x1 x2 x3 x4 x5 x6 x7

theorem lam_real (X : Vec Ideal S4x64 .f32) (a b c d : FVec Ideal S64 .f32) (l : ℝ)
    (h0 : ∀ i, X (ix2 0 i) = a (ix1 i)) (h1 : ∀ i, X (ix2 1 i) = b (ix1 i)) (h2 : ∀ i, X (ix2 2 i) = c (ix1 i))
    (h3 : ∀ i, X (ix2 3 i) = d (ix1 i))
    (hl : Cert.ReferenceIdeal.Read.val_main_v7 (F := Ideal) a b c d ix0 = (l : EReal)) :
    Ideal.exp (∑ i : Fin 64, X (ix2 0 i) * X (ix2 1 i)) - Ideal.exp (∑ i : Fin 64, X (ix2 2 i) * X (ix2 3 i))
      + Ideal.ofBits .f32 0x3E4CCCCD#32 = (l : EReal) := by
  rw [← hl, e7, e1, e4]
  simp only [h0, h1, h2, h3]

theorem v7_real (a b c d : S64.Idx → ℝ) : ∃ l : ℝ, Cert.ReferenceIdeal.Read.val_main_v7 (F := Ideal)
    (fun i => ((a i : ℝ) : EReal)) (fun i => ((b i : ℝ) : EReal)) (fun i => ((c i : ℝ) : EReal)) (fun i => ((d i : ℝ) : EReal)) ix0 = (l : EReal) := by
  have hc : ∃ r : ℝ, Ideal.ofBits .f32 0x3E4CCCCD#32 = (r : EReal) := by
    simp only [Ideal.ofBits, Ideal.ieee]
    norm_num
    exact ⟨_, (EReal.coe_mul _ _).symm⟩
  obtain ⟨r, hr⟩ := hc
  rw [e7, e1, e4, hr]
  simp only [← EReal.coe_mul, coe_sum', Ideal.exp_coe, ← EReal.coe_sub, ← EReal.coe_add]
  exact ⟨_, rfl⟩

section
variable (m : (ℓ : Loc nD τ sig) → Buf (Elt Ideal) ℓ) (c : Dev nD)
  (q k : S2x8448x6x2x64.Idx → ℝ) (v : S2x8448x6x128.Idx → ℝ)
  (hq : qA m c = fun i => ((q i : ℝ) : EReal)) (hk : kA m c = fun i => ((k i : ℝ) : EReal))
  (hv : vA m c = fun i => ((v i : ℝ) : EReal)) (l : ℝ)
  (hl : Cert.ReferenceIdeal.Read.val_main_v7 (F := Ideal) (l1 m c) (l2 m c) (l3 m c) (l4 m c) ix0 = (l : EReal))

include hq hk hv hl in
theorem point (t : Fin cfg0.N) (r : Fin 256) (e : Fin 128) :
    outF (iblk m c 0 t) (iblk m c 1 t) (iblk m c 2 t) (iblk m c 3 t) (iblk m c 4 t) (ix3 0 r e)
      = REF (qA m c) (kA m c) (vA m c) (l1 m c) (l2 m c) (l3 m c) (l4 m c) (gA m c)
          (ix3 (tb t) (sp t r) ⟨(th t).val * 128 + e.val, by omega⟩) := by
  rw [out_at, REF, r48]
  have hg : (iblk m c 4 t (ix2 e 0) : EReal) = gA m c (ix1 e) := by rw [blk4, v19_at]
  have hlam := lam_real (iblk m c 0 t) (l1 m c) (l2 m c) (l3 m c) (l4 m c) l
    (fun d => (blk0 m c t 0 d).trans (v18_at m c d).1) (fun d => (blk0 m c t 1 d).trans (v18_at m c d).2.1)
    (fun d => (blk0 m c t 2 d).trans (v18_at m c d).2.2.1) (fun d => (blk0 m c t 3 d).trans (v18_at m c d).2.2.2) hl
  rw [hlam, hg]
  refine congrArg (fun f => rowF f (gA m c (ix1 e)) e) (funext fun x => ?_)
  rw [quot_avg m c t q k v hk hv 0 r x _ (fun d => ra_real m c t q hq d r),
    quot_avg m c t q k v hk hv 1 r x _ (fun d => rb_real m c t q hq d r), hq, hk, hv,
    r31 q k v _ _ _ _ (tb t) (sp t r) (th t) l hl, ← EReal.coe_mul, ← EReal.coe_sub]

include hq hk hv hl in
theorem final : (dats m 0 c).arrAt 5 cfg0.N
    = REF (qA m c) (kA m c) (vA m c) (l1 m c) (l2 m c) (l3 m c) (l4 m c) (gA m c) := by
  refine (dats m 0 c).arrAt_eq_of_covers 5 _ (by decide +kernel) fun t _ y => ?_
  blk_simp
  rw [after0_5, outsAt_eq]
  idx_vars y
  obtain rfl : y0 = 0 := Subsingleton.elim _ _
  refine (point m c q k v hq hk hv l hl t y1 y2).trans (congrArg (REF _ _ _ _ _ _ _ _) ?_)
  blk_ext [idx t, tb, th, ti, sp]
end

end Diff
-- ==== Proof.Finite.lean ====
module

public import proofs.«01_k».proof.Proof.Gen.Pre_finite
public import Idealize.ShloMosaic.Lib.ReduceAll
public import Idealize.ShloMosaic.Lib.Pointwise

/-! The precondition, as: the entries are real numbers. -/

@[expose] public section

set_option maxRecDepth 16384
open Cert.Pre_finite Cert.Pre_finite.Gen Idealize.ShloMosaic Idealize.ShloMosaic.TcCoe Idealize.SL.Sem

namespace Diff

theorem real_one (x : EReal) (h : IntOp.andi (FloatOps.cmpf (F := Ideal) (φ := .f32) .olt x (Ideal.ofBits .f32 0x7F800000#32))
    (FloatOps.cmpf (F := Ideal) (φ := .f32) .ogt x (Ideal.ofBits .f32 0xFF800000#32)) = 1#1) : ∃ r : ℝ, x = r := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h
  induction x using EReal.rec with
  | bot => simp [IntOp.andi, FloatOps.cmpf] at h; exact absurd h (by simp [Ideal.cmp])
  | top => simp [IntOp.andi, FloatOps.cmpf] at h; exact absurd h (by simp [Ideal.cmp])
  | coe r => exact ⟨r, rfl⟩

theorem andi_one : ∀ a b : BitVec 1, IntOp.andi a b = 1#1 → a = 1#1 ∧ b = 1#1 := by decide

theorem all_real {s : Shape} {axes : List (Fin s.rank)} (x : FVec Ideal s .f32) (hb : S_.BroadcastsInDim s (![] : Fin 0 → Fin s.rank))
    (hr : s.ReducesTo axes S_)
    (h : Host.reduce IntOp.andi
      (andi (cmpf .olt x (broadcastInDim s ![] hb (constant (F := Ideal) S_ .f32 0x7F800000#32)))
        (cmpf .ogt x (broadcastInDim s ![] hb (constant (F := Ideal) S_ .f32 0xFF800000#32))))
      (constantI S_ 1 1#1) hr h_S_ ix0 = 1#1) : ∃ q : s.Idx → ℝ, x = fun i => ((q i : ℝ) : EReal) := by
  haveI : Subsingleton S_.Idx := ⟨fun a b => funext fun i => i.elim0⟩
  have hx : ∀ i, ∃ r : ℝ, x i = (r : EReal) := fun i => real_one _ (Host.reduce_andi_all _ _ hr h_S_ ix0 h i)
  choose q hq using hx
  exact ⟨q, funext hq⟩

theorem fin_split (x0 x1 : FVec Ideal S2x8448x6x2x64 .f32) (x2 : FVec Ideal S2x8448x6x128 .f32)
    (x3 x4 x5 x6 : FVec Ideal S64 .f32) (x7 : FVec Ideal S128 .f32)
    (h : Cert.Pre_finite.fn (F := Ideal) x0 x1 x2 x3 x4 x5 x6 x7 = fun _ => 1#1) :
    (∃ q : S2x8448x6x2x64.Idx → ℝ, x0 = fun i => ((q i : ℝ) : EReal))
    ∧ (∃ q : S2x8448x6x2x64.Idx → ℝ, x1 = fun i => ((q i : ℝ) : EReal))
    ∧ (∃ q : S2x8448x6x128.Idx → ℝ, x2 = fun i => ((q i : ℝ) : EReal))
    ∧ (∃ q : S64.Idx → ℝ, x3 = fun i => ((q i : ℝ) : EReal))
    ∧ (∃ q : S64.Idx → ℝ, x4 = fun i => ((q i : ℝ) : EReal))
    ∧ (∃ q : S64.Idx → ℝ, x5 = fun i => ((q i : ℝ) : EReal))
    ∧ (∃ q : S64.Idx → ℝ, x6 = fun i => ((q i : ℝ) : EReal)) := by
  have h0 := congrFun h ix0
  simp only [Cert.Pre_finite.fn, Cert.Pre_finite.fn_part1, Cert.Pre_finite.fn_part2, andi] at h0
  obtain ⟨h0, h6⟩ := andi_one _ _ h0
  obtain ⟨h0, h5⟩ := andi_one _ _ h0
  obtain ⟨h0, h4⟩ := andi_one _ _ h0
  obtain ⟨h0, h3⟩ := andi_one _ _ h0
  obtain ⟨h0, h2⟩ := andi_one _ _ h0
  obtain ⟨h0, h1⟩ := andi_one _ _ h0
  exact ⟨all_real x0 _ _ h0, all_real x1 _ _ h1, all_real x2 _ _ h2, all_real x3 _ _ h3, all_real x4 _ _ h4,
    all_real x5 _ _ h5, all_real x6 _ _ h6⟩

end Diff
-- ==== Proof.MoePre.lean ====
module

public import proofs.«01_k».proof.Proof.Gen.Pre_routed
public import proofs.«01_k».proof.Proof.Gen.On_in_use
public import Idealize.ShloMosaic.Lib.ReduceAll
public import Idealize.ShloMosaic.Lib.Pointwise

/-! The precondition of the expert feed-forward, as ranges of the tables; its mask, as the rows in use. -/

@[expose] public section

set_option maxRecDepth 16384
open Idealize.ShloMosaic Idealize.ShloMosaic.TcCoe Idealize.SL.Sem

namespace MoePre

theorem ofBool_one : ∀ b : Bool, BitVec.ofBool b = 1#1 ↔ b = true := by decide
theorem both_one : ∀ a b : BitVec 1, IntOp.andi a b = 1#1 → a = 1#1 ∧ b = 1#1 := by decide

theorem range8 (w : BitVec 32) (h : IntOp.andi (IntOp.cmpi .sge w 0#32) (IntOp.cmpi .slt w 8#32) = 1#1) : w.toNat < 8 := by
  obtain ⟨h1, h2⟩ := both_one _ _ h
  simp only [IntOp.cmpi, ofBool_one, BitVec.slt, BitVec.sle, decide_eq_true_eq] at h1 h2
  have e0 : (0#32 : BitVec 32).toInt = 0 := by decide
  have e8 : (8#32 : BitVec 32).toInt = 8 := by decide
  rw [e0] at h1
  rw [e8] at h2
  rw [BitVec.toInt_eq_toNat_cond] at h1 h2
  split at h1 <;> omega

theorem range40 (w : BitVec 32) (h : IntOp.andi (IntOp.cmpi .sge w 1#32) (IntOp.cmpi .sle w 40#32) = 1#1) : 1 ≤ w.toNat ∧ w.toNat ≤ 40 := by
  obtain ⟨h1, h2⟩ := both_one _ _ h
  simp only [IntOp.cmpi, ofBool_one, BitVec.slt, BitVec.sle, decide_eq_true_eq] at h1 h2
  have e0 : (1#32 : BitVec 32).toInt = 1 := by decide
  have e8 : (40#32 : BitVec 32).toInt = 40 := by decide
  rw [e0] at h1
  rw [e8] at h2
  rw [BitVec.toInt_eq_toNat_cond] at h1 h2
  have := w.isLt
  split at h1 <;> omega

section
open Cert.Pre_routed Cert.Pre_routed.Gen

theorem ranges {F : FTy → Type} [FloatOps F] (x0 x1 : IVec S40 32) (x2 : IVec S1 32) (x3 : FVec F S40960x2048 .bf16)
    (x4 x5 : FVec F S8x2048x5632 .f32) (x6 : FVec F S8x5632x2048 .f32)
    (h : Cert.Pre_routed.fn (F := F) x0 x1 x2 x3 x4 x5 x6 = fun _ => 1#1) :
    (∀ i, (x0 i).toNat < 8) ∧ (∀ i, 1 ≤ (x2 i).toNat ∧ (x2 i).toNat ≤ 40) := by
  have h0 := congrFun h ix0
  simp only [Cert.Pre_routed.fn] at h0
  obtain ⟨ha, hb⟩ := both_one _ _ h0
  haveI : Subsingleton S_.Idx := ⟨fun a b => funext fun i => i.elim0⟩
  exact ⟨fun i => range8 _ (Host.reduce_andi_all _ _ _ _ ix0 ha i), fun i => range40 _ (Host.reduce_andi_all _ _ _ _ ix0 hb i)⟩
end

section
open Cert.On_in_use Cert.On_in_use.Gen

theorem mask_at {F : FTy → Type} [FloatOps F] (x0 x1 : IVec S40 32) (x2 : IVec S1 32) (x3 : FVec F S40960x2048 .bf16)
    (x4 x5 : FVec F S8x2048x5632 .f32) (x6 : FVec F S8x5632x2048 .f32) (R : Fin 40960) (d : Fin 2048) :
    Cert.On_in_use.fn (F := F) x0 x1 x2 x3 x4 x5 x6 (ix2 R d)
      = IntOp.andi (IntOp.cmpi .slt (BitVec.ofNat 32 (R.val / 1024)) (x2 (ix1 0)))
          (IntOp.cmpi .slt (BitVec.ofNat 32 (R.val % 1024)) (x1 (ix1 ⟨R.val / 1024, by omega⟩))) := by
  pointwise [Cert.On_in_use.fn]

theorem small (n : ℕ) (h : n < 40960) : (BitVec.ofNat 32 n).toInt = n := by
  rw [BitVec.toInt_eq_toNat_cond, BitVec.toNat_ofNat, Nat.mod_eq_of_lt (by omega)]
  split <;> omega

theorem in_use {F : FTy → Type} [FloatOps F] (x0 x1 : IVec S40 32) (x2 : IVec S1 32) (x3 : FVec F S40960x2048 .bf16)
    (x4 x5 : FVec F S8x2048x5632 .f32) (x6 : FVec F S8x5632x2048 .f32) (hx2 : (x2 (ix1 0)).toNat ≤ 40) (R : Fin 40960) (d : Fin 2048)
    (h : Cert.On_in_use.fn (F := F) x0 x1 x2 x3 x4 x5 x6 (ix2 R d) = 1#1) :
    R.val / 1024 < (x2 (ix1 0)).toNat ∧ ((R.val % 1024 : ℕ) : ℤ) < (x1 (ix1 ⟨R.val / 1024, by omega⟩)).toInt := by
  rw [mask_at] at h
  obtain ⟨h1, h2⟩ := both_one _ _ h
  simp only [IntOp.cmpi, ofBool_one, BitVec.slt, decide_eq_true_eq] at h1 h2
  rw [small _ (by omega)] at h1 h2
  refine ⟨?_, h2⟩
  rw [BitVec.toInt_eq_toNat_cond] at h1
  split at h1 <;> omega
end

end MoePre
-- ==== Proof.MoeRuns.lean ====
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The body of the expert feed-forward, run along each of its control paths. -/

@[expose] public section

set_option maxRecDepth 16384
set_option Elab.async false

noncomputable section

namespace Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables, whole, as the body is handed them. -/
abbrev tbM0_0 : Memref sig .tc .smem S40 .i32 := Memref.whole main_arg0
abbrev tbM0_1 : Memref sig .tc .smem S40 .i32 := Memref.whole main_arg1
abbrev tbM0_2 : Memref sig .tc .smem S1 .i32 := Memref.whole main_arg2

/-- The row count the body reads at a grid point. -/
abbrev word (i : grid0.Coords) (T1 : (S40.Idx → Elt Ideal .i32)) : BitVec 32 :=
  View.readAt (Elt Ideal) (tbM0_1).view (Rect.unit (s := S40) (k0_off1 i) S1.size (k0_off1_inb i)).toLoadRect T1 (Shape.Idx.first (numel1_S1.symm ▸ Nat.one_pos))

/-- One staging buffer of the output, through which its contents are stated. -/
abbrev VO0_4 : View sig .tc .vmem S1024x2048 .f32 := (Memref.whole cc0_stg4_0 : Memref sig .tc .vmem S1024x2048 .f32).view

set_option backward.proofsInPublic true in
set_option maxHeartbeats 8000000 in
/-- First column block, all rows in use. The pieces stored in the output block, and the run of the body to them. -/
noncomputable def runA (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : k0_cond2 (word i T1) = 1#1) (h3 : ¬(k0_cond3 (word i T1) = 1#1)) :
    { out0 : List (View.Piece (Elt Ideal) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩

    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = k0_cond2 _ = _; exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverA (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : k0_cond2 (word i T1) = 1#1) (h3 : ¬(k0_cond3 (word i T1) = 1#1)) (y : S1024x2048.Idx) :
    ∃ pc ∈ (runA c i arg5 harg5 arg6 harg6 arg7 harg7 arg8 harg8 arg9 harg9 T0 T1 T2 x0 x1 x2 x3 h1 h2 h3).1, y ∈ pc.1.set :=
  ⟨_, List.mem_cons_of_mem _ (List.mem_singleton_self _), View.mem_set_unit_zero (by decide) inb_S1024x2048_S1024x2048_0_0 y⟩

/-- What is left in the output block. -/
noncomputable def outA (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : k0_cond2 (word i T1) = 1#1) (h3 : ¬(k0_cond3 (word i T1) = 1#1)) : (S1024x2048.Idx → Elt Ideal .f32) :=
  VO0_4.read (Elt Ideal) (VO0_4.writes (Elt Ideal) VO0_4.junk (runA c i arg5 harg5 arg6 harg6 arg7 harg7 arg8 harg8 arg9 harg9 T0 T1 T2 x0 x1 x2 x3 h1 h2 h3).1)

set_option backward.proofsInPublic true in
set_option maxHeartbeats 8000000 in
/-- A later column block, all rows in use. The pieces stored in the output block, and the run of the body to them. -/
noncomputable def runB (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : k0_cond2 (word i T1) = 1#1) (h3 : ¬(k0_cond3 (word i T1) = 1#1)) :
    { out0 : List (View.Piece (Elt Ideal) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare xo4
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%f4, %hf4, HO4⟩, Hk⟩
    obtain rfl := harg9.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = k0_cond2 _ = _; exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverB (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : k0_cond2 (word i T1) = 1#1) (h3 : ¬(k0_cond3 (word i T1) = 1#1)) (y : S1024x2048.Idx) :
    ∃ pc ∈ (runB c i arg5 harg5 arg6 harg6 arg7 harg7 arg8 harg8 arg9 harg9 T0 T1 T2 x0 x1 x2 x3 xo4 h1 h2 h3).1, y ∈ pc.1.set :=
  ⟨_, List.mem_singleton_self _, View.mem_set_unit_zero (by decide) inb_S1024x2048_S1024x2048_0_0 y⟩

/-- What is left in the output block. -/
noncomputable def outB (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : k0_cond2 (word i T1) = 1#1) (h3 : ¬(k0_cond3 (word i T1) = 1#1)) : (S1024x2048.Idx → Elt Ideal .f32) :=
  VO0_4.read (Elt Ideal) (VO0_4.writes (Elt Ideal) VO0_4.junk (runB c i arg5 harg5 arg6 harg6 arg7 harg7 arg8 harg8 arg9 harg9 T0 T1 T2 x0 x1 x2 x3 xo4 h1 h2 h3).1)

set_option backward.proofsInPublic true in
set_option maxHeartbeats 8000000 in
/-- First column block, the first half of the rows in use. The pieces stored in the output block, and the run of the body to them. -/
noncomputable def runC (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : k0_cond3 (word i T1) = 1#1) :
    { out0 : List (View.Piece (Elt Ideal) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩

    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = ¬(k0_cond2 _ = _); exact h2) | (guard_target = k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverC (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : k0_cond3 (word i T1) = 1#1) (y : S1024x2048.Idx) :
    ∃ pc ∈ (runC c i arg5 harg5 arg6 harg6 arg7 harg7 arg8 harg8 arg9 harg9 T0 T1 T2 x0 x1 x2 x3 h1 h2 h3).1, y ∈ pc.1.set :=
  ⟨_, List.mem_cons_of_mem _ (List.mem_singleton_self _), View.mem_set_unit_zero (by decide) inb_S1024x2048_S1024x2048_0_0 y⟩

/-- What is left in the output block. -/
noncomputable def outC (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : k0_cond3 (word i T1) = 1#1) : (S1024x2048.Idx → Elt Ideal .f32) :=
  VO0_4.read (Elt Ideal) (VO0_4.writes (Elt Ideal) VO0_4.junk (runC c i arg5 harg5 arg6 harg6 arg7 harg7 arg8 harg8 arg9 harg9 T0 T1 T2 x0 x1 x2 x3 h1 h2 h3).1)

set_option backward.proofsInPublic true in
set_option maxHeartbeats 8000000 in
/-- A later column block, the first half of the rows in use. The pieces stored in the output block, and the run of the body to them. -/
noncomputable def runD (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : ¬(k0_cond2 (word i T1) = 1#1)) (h3 : k0_cond3 (word i T1) = 1#1) :
    { out0 : List (View.Piece (Elt Ideal) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare xo4
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (arg9.view.loc (c : Thread nD τ) ↦[arg9.view.set]{fullShare} arg9.view.writes (Elt Ideal) (harg9.unread xo4) out0)) -∗ K ⟨⟩))
          ⊢ wp frame (wpE (defs₀ (F := Ideal)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%f4, %hf4, HO4⟩, Hk⟩
    obtain rfl := harg9.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = ¬(k0_cond2 _ = _); exact h2) | (guard_target = k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexact HO4⟩

/-- What is left in the output block. -/
noncomputable def outD (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : ¬(k0_cond2 (word i T1) = 1#1)) (h3 : k0_cond3 (word i T1) = 1#1) : (S1024x2048.Idx → Elt Ideal .f32) :=
  arg9.view.read (Elt Ideal) (arg9.view.writes (Elt Ideal) (harg9.unread xo4) (runD c i arg5 harg5 arg6 harg6 arg7 harg7 arg8 harg8 arg9 harg9 T0 T1 T2 x0 x1 x2 x3 xo4 h1 h2 h3).1)

set_option backward.proofsInPublic true in
set_option maxHeartbeats 8000000 in
/-- First column block, no row in use. The pieces stored in the output block, and the run of the body to them. -/
noncomputable def runE (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : ¬(k0_cond3 (word i T1) = 1#1)) :
    { out0 : List (View.Piece (Elt Ideal) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)) -∗ K ⟨⟩))
          ⊢ wp frame (wpE (defs₀ (F := Ideal)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩

    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = ¬(k0_cond2 _ = _); exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverE (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : ¬(k0_cond3 (word i T1) = 1#1)) (y : S1024x2048.Idx) :
    ∃ pc ∈ (runE c i arg5 harg5 arg6 harg6 arg7 harg7 arg8 harg8 arg9 harg9 T0 T1 T2 x0 x1 x2 x3 h1 h2 h3).1, y ∈ pc.1.set :=
  ⟨_, List.mem_singleton_self _, View.mem_set_unit_zero (by decide) inb_S1024x2048_S1024x2048_0_0 y⟩

/-- What is left in the output block. -/
noncomputable def outE (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : ¬(k0_cond3 (word i T1) = 1#1)) : (S1024x2048.Idx → Elt Ideal .f32) :=
  VO0_4.read (Elt Ideal) (VO0_4.writes (Elt Ideal) VO0_4.junk (runE c i arg5 harg5 arg6 harg6 arg7 harg7 arg8 harg8 arg9 harg9 T0 T1 T2 x0 x1 x2 x3 h1 h2 h3).1)

set_option backward.proofsInPublic true in
set_option maxHeartbeats 8000000 in
/-- A later column block, no row in use: nothing is stored. The pieces stored in the output block, and the run of the body to them. -/
noncomputable def runG (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : ¬(k0_cond2 (word i T1) = 1#1)) (h3 : ¬(k0_cond3 (word i T1) = 1#1)) :
    { out0 : List (View.Piece (Elt Ideal) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare xo4
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (arg9.view.loc (c : Thread nD τ) ↦[arg9.view.set]{fullShare} arg9.view.writes (Elt Ideal) (harg9.unread xo4) out0)) -∗ K ⟨⟩))
          ⊢ wp frame (wpE (defs₀ (F := Ideal)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨[], fun K => by
    unfold owns
    rw [cc0_moe_ffn_eq_skeleton]; unfold cc0_moe_ffn_skel
    iintro ⟨H0, H1, H2, H3, HT0, HT1, HT2, ⟨%f4, %hf4, HO4⟩, Hk⟩
    obtain rfl := harg9.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = ¬(k0_cond2 _ = _); exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexact HO4⟩

end Moe

end
-- ==== Proof.MoeTab.lean ====
module

public import proofs.«01_k».proof.Proof.Gen.Kernel2Ideal.Skeleton
public import proofs.«01_k».proof.Proof.Gen.Kernel2Ideal.Launch
public import proofs.«01_k».proof.Proof.MoeRuns
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The tables of the expert feed-forward and what the control and the block indices are at them. -/

@[expose] public section

set_option maxRecDepth 16384
set_option Elab.async false

noncomputable section

namespace Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The expert of each tile, the rows in use of each tile, and the number of tiles in use, with the ranges they keep. -/
structure Tab where
  te : S40.Idx → BitVec 32
  tr : S40.Idx → BitVec 32
  na : S1.Idx → BitVec 32
  hte : ∀ x, (te x).toNat < 8
  hna : ∀ x, 1 ≤ (na x).toNat ∧ (na x).toNat ≤ 40

variable (ch : Tab)

/-- The one index of a one-entry table. -/
def one : S1.Idx := Shape.Idx.first (numel1_S1.symm ▸ Nat.one_pos)

/-- A grid point's entry in a table by tile. -/
def tix (i : grid0.Coords) : S40.Idx := fun a => ⟨(i 0).val, by have := (i 0).isLt; fin_cases a; exact this⟩

set_option backward.proofsInPublic true in
/-- The tables as the launch holds them. -/
def pfN : pre0.Contents (Elt Ideal) := fun | ⟨0, _⟩ => ch.te | ⟨1, _⟩ => ch.tr | ⟨2, _⟩ => ch.na | ⟨_ + 3, h⟩ => absurd h (by simp)

/-- The tables a launch memory holds are these. -/
def Pinned (m : (ℓ : Loc nD τ sig) → Buf (Elt Ideal) ℓ) : Prop :=
  (∀ c : Dev nD, m ((c : Thread nD τ).loc main_arg0) = ch.te)
  ∧ (∀ c : Dev nD, m ((c : Thread nD τ).loc main_arg1) = ch.tr)
  ∧ (∀ c : Dev nD, m ((c : Thread nD τ).loc main_arg2) = ch.na)

theorem off1_val (i : grid0.Coords) (a) : k0_off1 i a = (i 0).val := by
  have h : ∀ x : Fin 40, (Scalar.indexCast (BitVec.ofNat 32 x.val)).toNat = x.val := by decide +kernel
  fin_cases a
  exact h (i 0)

theorem emb_tix (i : grid0.Coords) (y : S1.Idx) : (Rect.unit (s := S40) (k0_off1 i) S1.size (k0_off1_inb i)).emb y = tix i := by
  funext a
  apply Fin.ext
  have h1 : (y a).val = 0 := by have := (y a).isLt; fin_cases a; exact Nat.lt_one_iff.mp this
  have h2 := off1_val i a
  show (k0_off1 i a + 1 * (y a).val : ℕ) = (i 0).val
  rw [h1, h2]; rfl

theorem word_eq (i : grid0.Coords) (T1 : (S40.Idx → Elt Ideal .i32)) : word i T1 = T1 (tix i) :=
  congrArg T1 (emb_tix i _)

theorem atD_eq (i : grid0.Coords) : (pfN ch).atD (1 : Fin 3) (k0_off1 i) = word i ch.tr := by
  rw [word_eq]
  unfold Pipeline.Prefetch.Contents.atD
  refine (dif_pos (fun a => by have := k0_off1_inb i a; fin_cases a; exact this)).trans ?_
  refine congrArg ch.tr ?_
  funext a; apply Fin.ext; exact off1_val i a

/-! The three decisions on the row count. -/

theorem cond2_iff (w : BitVec 32) : k0_cond2 w = 1#1 ↔ (512 : ℤ) < w.toInt := by
  have h : ∀ b : BitVec 1, Scalar.cmpi .ne (Scalar.extui b : BitVec 32) 0#32 = b := by decide
  unfold k0_cond2
  simp only [h]
  have ob : ∀ b : Bool, BitVec.ofBool b = 1#1 ↔ b = true := by decide
  simp only [Scalar.cmpi, IntOp.cmpi, BitVec.slt, ob, decide_eq_true_eq]
  exact Iff.rfl

theorem cond3_iff (w : BitVec 32) : k0_cond3 w = 1#1 ↔ (0 : ℤ) < w.toInt ∧ w.toInt ≤ 512 := by
  have h : ∀ b : BitVec 1, Scalar.cmpi .ne (Scalar.extui b : BitVec 32) 0#32 = b := by decide
  have h2 : ∀ a b : Bool, Scalar.andi (BitVec.ofBool a) (BitVec.ofBool b) = 1#1 ↔ a = true ∧ b = true := by decide
  unfold k0_cond3
  simp only [h]
  simp only [Scalar.cmpi, IntOp.cmpi, h2, BitVec.slt, BitVec.sle, decide_eq_true_eq]
  exact Iff.rfl

theorem not3_of_2 {w : BitVec 32} (h : k0_cond2 w = 1#1) : ¬ k0_cond3 w = 1#1 := by
  rw [cond2_iff] at h; rw [cond3_iff]; omega

/-! The blocks each window names. -/

theorem min_val : ∀ a : Fin 40, ∀ k : Fin 41, 1 ≤ k.val →
    (Scalar.minsi (BitVec.ofNat 32 a.val) (Scalar.subi (BitVec.ofNat 32 k.val) 1#32)).toNat = min a.val (k.val - 1) := by decide +kernel

theorem slt_val : ∀ a : Fin 40, ∀ k : Fin 41,
    Scalar.cmpi .slt (BitVec.ofNat 32 a.val) (BitVec.ofNat 32 k.val) = if a.val < k.val then 1#1 else 0#1 := by decide +kernel

/-- The number of tiles in use. -/
def nAct : ℕ := (ch.na one).toNat

theorem nAct_pos : 1 ≤ nAct ch := (ch.hna _).1
theorem nAct_le : nAct ch ≤ 40 := (ch.hna _).2
theorem na_eq (x : S1.Idx) : ch.na x = BitVec.ofNat 32 (nAct ch) := by
  have hx : x = one := by funext a; apply Fin.ext; have := (x a).isLt; have h2 := (one a).isLt; fin_cases a; exact (Nat.lt_one_iff.mp this).trans (Nat.lt_one_iff.mp h2).symm
  rw [hx]; exact (BitVec.ofNat_toNat _ _).symm ▸ (by simp)

/-- The column block a point fetches. -/
def fcol (i : grid0.Coords) : ℕ := if (i 0).val < nAct ch then (i 1).val else 21

theorem fcol_lt (i : grid0.Coords) : fcol ch i ≤ 21 := by
  unfold fcol; have : (i 1).val < 22 := (i 1).isLt; split <;> omega

theorem sel_val (i : grid0.Coords) (x : S1.Idx) :
    (Scalar.select (Scalar.cmpi .slt (BitVec.ofNat 32 (i 0).val) (ch.na x)) (BitVec.ofNat 32 (i 1).val) (21#32 : BitVec 32)).toNat = fcol ch i := by
  rw [na_eq, show BitVec.ofNat 32 (nAct ch) = BitVec.ofNat 32 (⟨nAct ch, Nat.lt_succ_of_le (nAct_le ch)⟩ : Fin 41).val from rfl, slt_val (i 0) ⟨nAct ch, Nat.lt_succ_of_le (nAct_le ch)⟩]
  have hf : ∀ f : Fin 22, (BitVec.ofNat 32 f.val).toNat = f.val := by decide
  unfold fcol
  by_cases h : (i 0).val < nAct ch
  · rw [if_pos h, if_pos h]; exact hf (i 1)
  · rw [if_neg h, if_neg h]; rfl

theorem t0_eq (i : grid0.Coords) : cc0_transform_0 inb_S1_S1_0 numel1_S1 (pfN ch) i = ![min (i 0).val (nAct ch - 1), 0] := by
  have h : ∀ x, (Scalar.minsi (BitVec.ofNat 32 (i 0).val) (Scalar.subi (ch.na x) 1#32)).toNat = min (i 0).val (nAct ch - 1) := fun x => by
    rw [na_eq]; exact min_val (i 0) ⟨nAct ch, Nat.lt_succ_of_le (nAct_le ch)⟩ (nAct_pos ch)
  exact congrArg (fun n => ![n, 0]) (h _)

theorem t1_eq (i : grid0.Coords) : cc0_transform_1 k0_off1_inb numel1_S1 inb_S1_S1_0 (pfN ch) i = ![(ch.te (tix i)).toNat, 0, fcol ch i] := by
  have h : ∀ x y : ℕ, x = (ch.te (tix i)).toNat → y = fcol ch i → ![x, 0, y] = ![(ch.te (tix i)).toNat, 0, fcol ch i] := by rintro _ _ rfl rfl; rfl
  exact h _ _ (congrArg (fun x => (ch.te x).toNat) (emb_tix i _)) (sel_val ch i _)

theorem t2_eq (i : grid0.Coords) : cc0_transform_2 k0_off1_inb numel1_S1 inb_S1_S1_0 (pfN ch) i = ![(ch.te (tix i)).toNat, 0, fcol ch i] := by
  have h : ∀ x y : ℕ, x = (ch.te (tix i)).toNat → y = fcol ch i → ![x, 0, y] = ![(ch.te (tix i)).toNat, 0, fcol ch i] := by rintro _ _ rfl rfl; rfl
  exact h _ _ (congrArg (fun x => (ch.te x).toNat) (emb_tix i _)) (sel_val ch i _)

theorem t3_eq (i : grid0.Coords) : cc0_transform_3 k0_off1_inb numel1_S1 inb_S1_S1_0 (pfN ch) i = ![(ch.te (tix i)).toNat, fcol ch i, 0] := by
  have h : ∀ x y : ℕ, x = (ch.te (tix i)).toNat → y = fcol ch i → ![x, y, 0] = ![(ch.te (tix i)).toNat, fcol ch i, 0] := by rintro _ _ rfl rfl; rfl
  exact h _ _ (congrArg (fun x => (ch.te x).toNat) (emb_tix i _)) (sel_val ch i _)

theorem ok_pfN : ok0 (F := Ideal) (pfN ch) := by
  have e := fun i => ch.hte (tix i)
  refine ⟨fun i => ⟨?_, .inr (Affine.block_words_dvd (s := S40960x2048) (p := EltTy.packing .bf16) (by decide) (by decide))⟩,
    fun i => ⟨?_, .inl rfl⟩, fun i => ⟨?_, .inl rfl⟩, fun i => ⟨?_, .inl rfl⟩⟩
  · rw [t0_eq]; intro a
    have h : min (i 0).val (nAct ch - 1) ≤ 39 := by have := nAct_le ch; omega
    fin_cases a
    · show (min (i 0).val (nAct ch - 1) + 1) * 1024 ≤ 40960; omega
    · exact Nat.le_of_ble_eq_true rfl
  · rw [t1_eq]; intro a
    have h := fcol_lt ch i; have h2 := e i
    fin_cases a
    · show ((ch.te (tix i)).toNat + 1) * 1 ≤ 8; omega
    · exact Nat.le_of_ble_eq_true rfl
    · show (fcol ch i + 1) * 256 ≤ 5632; omega
  · rw [t2_eq]; intro a
    have h := fcol_lt ch i; have h2 := e i
    fin_cases a
    · show ((ch.te (tix i)).toNat + 1) * 1 ≤ 8; omega
    · exact Nat.le_of_ble_eq_true rfl
    · show (fcol ch i + 1) * 256 ≤ 5632; omega
  · rw [t3_eq]; intro a
    have h := fcol_lt ch i; have h2 := e i
    fin_cases a
    · show ((ch.te (tix i)).toNat + 1) * 1 ≤ 8; omega
    · show (fcol ch i + 1) * 256 ≤ 5632; omega
    · exact Nat.le_of_ble_eq_true rfl

end Moe

end
-- ==== Proof.MoeCfg.lean ====
module

public import proofs.«01_k».proof.Proof.Gen.Kernel2Ideal.Skeleton
public import proofs.«01_k».proof.Proof.Gen.Kernel2Ideal.Launch
public import proofs.«01_k».proof.Proof.MoeTab
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The schedule of the expert feed-forward and what its output block holds after each grid point. -/

@[expose] public section

set_option maxRecDepth 16384
set_option Elab.async false

noncomputable section

namespace Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra. -/
abbrev EP : Emb (UR sig nD τ) 𝕄 := emb₁

variable (ch : Tab)
/-- The admissible contents, the pipeline at them (`cfgA ch`: member `ch`'s grid, 880 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x2048x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x2048x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x256x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The schedule -/

abbrev C1 (t : Fin (cfgA ch).N) : Prop := k0_cond1 (crd ch t) = 1#1
abbrev C2 (t : Fin (cfgA ch).N) : Prop := k0_cond2 (word (crd ch t) ch.tr) = 1#1
abbrev C3 (t : Fin (cfgA ch).N) : Prop := k0_cond3 (word (crd ch t) ch.tr) = 1#1

theorem c1_tab : ∀ t : Fin grid0.N, (k0_cond1 (grid0.coords t) == 1#1) = (t.val % 22 == 0) := by decide +kernel
theorem flush_tab : ∀ t : Fin grid0.N, Window.flushOf grid0 true cc0_transform_4 t = ((t.val + 1) % 22 == 0) := by decide +kernel

theorem idle4 (t : Fin (cfgA ch).N) : (cfgA ch).idle (4 : Fin 5) (crd ch t)
    = (!(k0_cond1 (crd ch t) == 1#1) && !(k0_cond2 (word (crd ch t) ch.tr) == 1#1) && !(k0_cond3 (word (crd ch t) ch.tr) == 1#1)) := by
  rw [← atD_eq]; rfl

theorem flush4 (t : Fin (cfgA ch).N) : ((cfgA ch).win (4 : Fin 5)).flush t = ((t.val + 1) % 22 == 0) := flush_tab t

/-- Nothing has been stored since the last write-back exactly at a first column block. -/
def frTab (n : ℕ) : Bool := n % 22 == 0

theorem frTab_step (t : Fin (cfgA ch).N) :
    frTab (t.val + 1) = (((cfgA ch).win (4 : Fin 5)).flush t || ((cfgA ch).idle (4 : Fin 5) ((cfgA ch).grid.coords t) && frTab t.val)) := by
  have h := c1_tab t
  rw [flush4]
  have h2 := idle4 ch t
  rw [show k0_cond1 (crd ch t) = k0_cond1 (grid0.coords t) from rfl, h] at h2
  rw [show (cfgA ch).idle (4 : Fin 5) ((cfgA ch).grid.coords t) = _ from h2]
  unfold frTab
  cases (t.val % 22 == 0) <;> simp

theorem freshF (t : Fin (cfgA ch).N) : (cfgA ch).fresh (4 : Fin 5) t.val = frTab t.val :=
  Pipeline.Cfg.fresh_tab (cfgA ch) (4 : Fin 5) frTab rfl (frTab_step ch) t.val (Nat.le_of_lt t.isLt)

theorem c1_iff (t : Fin (cfgA ch).N) : C1 ch t ↔ t.val % 22 = 0 := by
  have h := c1_tab t
  rw [Bool.eq_iff_iff, beq_iff_eq, beq_iff_eq] at h
  exact h

theorem fresh_c1 (t : Fin (cfgA ch).N) (q : C1 ch t) : (cfgA ch).fresh (4 : Fin 5) t.val = true := by
  rw [freshF]; unfold frTab; rw [beq_iff_eq]; exact (c1_iff ch t).1 q
theorem fresh_n1 (t : Fin (cfgA ch).N) (q : ¬C1 ch t) : (cfgA ch).fresh (4 : Fin 5) t.val = false := by
  rw [freshF]; unfold frTab; rw [Bool.eq_false_iff, ne_eq, beq_iff_eq]; exact fun h => q ((c1_iff ch t).2 h)
theorem idle_busy (t : Fin (cfgA ch).N) (q : C1 ch t ∨ C2 ch t ∨ C3 ch t) : (cfgA ch).idle (4 : Fin 5) ((cfgA ch).grid.coords t) = false := by
  refine (idle4 ch t).trans ?_
  rcases q with q | q | q <;> rw [q] <;> simp
theorem idle_none (t : Fin (cfgA ch).N) (q1 : ¬C1 ch t) (q2 : ¬C2 ch t) (q3 : ¬C3 ch t) : (cfgA ch).idle (4 : Fin 5) ((cfgA ch).grid.coords t) = true := by
  refine (idle4 ch t).trans ?_
  rw [beq_eq_false_iff_ne.2 q1, beq_eq_false_iff_ne.2 q2, beq_eq_false_iff_ne.2 q3]; rfl

/-! ## What the output block holds after each point -/

/-- One point's effect on the output block. -/
def step0 (c : Dev nD) (t : Fin (cfgA ch).N) (prev : (S1024x2048.Idx → Elt Ideal .f32)) : (S1024x2048.Idx → Elt Ideal .f32) :=
  if q1 : C1 ch t then
    if q2 : C2 ch t then outA c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 (not3_of_2 q2)
    else if q3 : C3 ch t then outC c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3
    else outE c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3
  else
    if q2 : C2 ch t then outB c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 (not3_of_2 q2)
    else if q3 : C3 ch t then outD c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 q3
    else prev

/-- THE TRAJECTORY: after position `n`. -/
def traj0 (c : Dev nD) : (n : ℕ) → n < (cfgA ch).N → (S1024x2048.Idx → Elt Ideal .f32)
  | 0, h => step0 ch m ρ c ⟨0, h⟩ default
  | n + 1, h => step0 ch m ρ c ⟨n + 1, h⟩ (traj0 c n (Nat.lt_of_succ_lt h))

/-- What they held BEFORE point `t` (junk before the first). -/
def prev0 (c : Dev nD) (t : Fin (cfgA ch).N) : (S1024x2048.Idx → Elt Ideal .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x2048.Idx → Elt Ideal .f32)) (q1 : C1 ch t) (q2 : C2 ch t) (q3 : ¬C3 ch t) :
    step0 ch m ρ c t prev = outA c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3 := by
  unfold step0; rw [dif_pos q1, dif_pos q2]

theorem step0_B (c : Dev nD) (t : Fin (cfgA ch).N) (prev : (S1024x2048.Idx → Elt Ideal .f32)) (q1 : ¬C1 ch t) (q2 : C2 ch t) (q3 : ¬C3 ch t) :
    step0 ch m ρ c t prev = outB c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 q3 := by
  unfold step0; rw [dif_neg q1, dif_pos q2]

theorem step0_C (c : Dev nD) (t : Fin (cfgA ch).N) (prev : (S1024x2048.Idx → Elt Ideal .f32)) (q1 : C1 ch t) (q2 : ¬C2 ch t) (q3 : C3 ch t) :
    step0 ch m ρ c t prev = outC c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3 := by
  unfold step0; rw [dif_pos q1, dif_neg q2, dif_pos q3]

theorem step0_D (c : Dev nD) (t : Fin (cfgA ch).N) (prev : (S1024x2048.Idx → Elt Ideal .f32)) (q1 : ¬C1 ch t) (q2 : ¬C2 ch t) (q3 : C3 ch t) :
    step0 ch m ρ c t prev = outD c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 q3 := by
  unfold step0; rw [dif_neg q1, dif_neg q2, dif_pos q3]

theorem step0_E (c : Dev nD) (t : Fin (cfgA ch).N) (prev : (S1024x2048.Idx → Elt Ideal .f32)) (q1 : C1 ch t) (q2 : ¬C2 ch t) (q3 : ¬C3 ch t) :
    step0 ch m ρ c t prev = outE c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3 := by
  unfold step0; rw [dif_pos q1, dif_neg q2, dif_neg q3]

theorem step0_G (c : Dev nD) (t : Fin (cfgA ch).N) (prev : (S1024x2048.Idx → Elt Ideal .f32)) (q1 : ¬C1 ch t) (q2 : ¬C2 ch t) (q3 : ¬C3 ch t) :
    step0 ch m ρ c t prev = prev := by
  unfold step0; rw [dif_neg q1, dif_neg q2, dif_neg q3]

end Moe

end
-- ==== Proof.MoeFrame.lean ====
module

public import proofs.«01_k».proof.Proof.Gen.Kernel2Ideal.Skeleton
public import proofs.«01_k».proof.Proof.Gen.Kernel2Ideal.Launch
public import proofs.«01_k».proof.Proof.MoeCfg
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The frame of the expert feed-forward. -/

@[expose] public section

set_option maxRecDepth 16384
set_option Elab.async false

noncomputable section

namespace Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (ch : Tab)
variable (m : (ℓ : Loc nD τ sig) → Buf (Elt Ideal) ℓ) (ρ : Dev nD → PrngReg)

/-! ## The pipeline's proof data -/

/-- What the tracked buffers held before position `t` of `Fin (N+1)` (the invariant's index). -/
def prev0T (c : Dev nD) (t : Fin ((cfgA ch).N + 1)) : (S1024x2048.Idx → Elt Ideal .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} ch.te) ∗ (tbM0_1.view.loc (c : Thread nD τ) ↦{fullShare.right} ch.tr) ∗ (tbM0_2.view.loc (c : Thread nD τ) ↦{fullShare.right} ch.na))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q1 : C1 ch t
  · rw [idle_busy ch t (.inl q1)] at hi; exact absurd hi (by decide)
  by_cases q2 : C2 ch t
  · rw [idle_busy ch t (.inr (.inl q2))] at hi; exact absurd hi (by decide)
  by_cases q3 : C3 ch t
  · rw [idle_busy ch t (.inr (.inr q3))] at hi; exact absurd hi (by decide)
  rw [step0_G ch m ρ c t _ q1 q2 q3]; unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_ffn (crd ch t) (Memref.whole main_arg0) (Memref.isWhole_whole _) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at a point, by control path. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q1 : C1 ch t
  · by_cases q2 : C2 ch t
    · have q3 := not3_of_2 q2
      have i4 := idle_busy ch t (.inl q1)
      have fr4 := fresh_c1 ch t q1
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q1 q2 q3]
      unfold Phi; simp only [prev0T_castSucc, prev0T_succ, traj0_eq, step0_A ch m ρ c t _ q1 q2 q3, Fin.val_castSucc, Fin.val_succ]
      iintro ⟨⟨HT0, HT1, HT2⟩, Ho, ⟨%d0, H0⟩, ⟨%d1, H1⟩, ⟨%d2, H2⟩, ⟨%d3, H3⟩, ⟨%d4, H4⟩⟩
      iapply ((runA c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexists _; iexact H4
      iintro ⟨H0, H1, H2, H3, HT0, HT1, HT2, ⟨%e4, H4⟩⟩
      isplitl [HT0 HT1 HT2]
      · isplitl [HT0]
        · iexact HT0
        isplitl [HT1]
        · iexact HT1
        iexact HT2
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverA c _ _ _ _ _ _ _ _ _ _ _ _ _ _ _ _ _ _ q1 q2 q3)
    · by_cases q3 : C3 ch t
      · have i4 := idle_busy ch t (.inl q1)
        have fr4 := fresh_c1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q1 q2 q3]
        unfold Phi; simp only [prev0T_castSucc, prev0T_succ, traj0_eq, step0_C ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runC c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexists _; iexact H4
        iintro ⟨H0, H1, H2, H3, HT0, HT1, HT2, ⟨%e4, H4⟩⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; exact View.read_writes_of_cover _ _ _ _ _ (coverC c _ _ _ _ _ _ _ _ _ _ _ _ _ _ _ _ _ _ q1 q2 q3)
      · have i4 := idle_busy ch t (.inl q1)
        have fr4 := fresh_c1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q1 q2 q3]
        unfold Phi; simp only [prev0T_castSucc, prev0T_succ, traj0_eq, step0_E ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runE c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexists _; iexact H4
        iintro ⟨H0, H1, H2, H3, HT0, HT1, HT2, ⟨%e4, H4⟩⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; exact View.read_writes_of_cover _ _ _ _ _ (coverE c _ _ _ _ _ _ _ _ _ _ _ _ _ _ _ _ _ _ q1 q2 q3)
  · by_cases q2 : C2 ch t
    · have q3 := not3_of_2 q2
      have i4 := idle_busy ch t (.inr (.inl q2))
      have fr4 := fresh_n1 ch t q1
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q1 q2 q3]
      unfold Phi; simp only [prev0T_castSucc, prev0T_succ, traj0_eq, step0_B ch m ρ c t _ q1 q2 q3, Fin.val_castSucc, Fin.val_succ]
      iintro ⟨⟨HT0, HT1, HT2⟩, Ho, ⟨%d0, H0⟩, ⟨%d1, H1⟩, ⟨%d2, H2⟩, ⟨%d3, H3⟩, ⟨%d4, H4⟩⟩
      iapply ((runB c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) _ q1 q2 q3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexact H4
      iintro ⟨H0, H1, H2, H3, HT0, HT1, HT2, ⟨%e4, H4⟩⟩
      isplitl [HT0 HT1 HT2]
      · isplitl [HT0]
        · iexact HT0
        isplitl [HT1]
        · iexact HT1
        iexact HT2
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverB c _ _ _ _ _ _ _ _ _ _ _ _ _ _ _ _ _ _ _ q1 q2 q3)
    · by_cases q3 : C3 ch t
      · have i4 := idle_busy ch t (.inr (.inr q3))
        have fr4 := fresh_n1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q1 q2 q3]
        unfold Phi; simp only [prev0T_castSucc, prev0T_succ, traj0_eq, step0_D ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runD c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) _ q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexact H4
        iintro ⟨H0, H1, H2, H3, HT0, HT1, HT2, H4⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; rfl
      · have i4 := idle_none ch t q1 q2 q3
        have fr4 := fresh_n1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_G ch m ρ c t _ q1 q2 q3]
        unfold Phi; simp only [prev0T_castSucc, prev0T_succ, traj0_eq, step0_G ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runG c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) _ q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexact H4
        iintro ⟨H0, H1, H2, H3, HT0, HT1, HT2, H4⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        rcases hfl : ((cfgA ch).win (4 : Fin 5)).flush t with _ | _
        · iexists d4
          unfold owns; iexists _; isplitr; swap
          · iexact H4
          · ipureintro; exact (hs0_4 ch t).read_unread _
        · unfold owns; iexists _; isplitr; swap
          · iexact H4
          · ipureintro; exact (hs0_4 ch t).read_unread _

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, -⟩
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -, -⟩
  isplitr; · iempintro
  iempintro

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 3) : m ((c : Thread nD τ).loc (pre0.ref j)) = (adm ch).1 j := by
  fin_cases j
  · exact hp.1 c
  · exact hp.2.1 c
  · exact hp.2.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2.1 c).symm, ((h c).2 2).trans (hp.2.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame: from a launch memory with these tables the run ends, the arguments unchanged and the counters at zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Moe

end
-- ==== Proof.MoeBlk.lean ====
module

public import proofs.«01_k».proof.Proof.MoeFrame
public import Idealize.ShloMosaic.Lib.Pipeline.ValueKit

/-! The blocks the expert feed-forward's windows read, as elements of the argument arrays. -/

@[expose] public section

set_option maxRecDepth 16384
open Cert.Kernel2Ideal Cert.Kernel2Ideal.Gen Idealize.ShloMosaic Idealize.ShloMosaic.TcCoe Idealize.ShloMosaic.Tactic Idealize.SL.Sem

namespace Moe

variable (ch : Tab) (m : (ℓ : Loc nD τ sig) → Buf (Elt Ideal) ℓ) (ρ : Dev nD → PrngReg)

/-- The tile and the column block of a grid point. -/
noncomputable def ti (t : Fin (cfgA ch).N) : Fin 40 := ⟨(crd ch t 0).val, (crd ch t 0).isLt⟩
noncomputable def tf (t : Fin (cfgA ch).N) : Fin 22 := ⟨(crd ch t 1).val, (crd ch t 1).isLt⟩

theorem crd_tab : ∀ t : Fin grid0.N, (grid0.coords t 0).val = t.val / 22 ∧ (grid0.coords t 1).val = t.val % 22 := by decide +kernel
theorem ti_val (t : Fin (cfgA ch).N) : (ti ch t).val = t.val / 22 := (crd_tab t).1
theorem tf_val (t : Fin (cfgA ch).N) : (tf ch t).val = t.val % 22 := (crd_tab t).2

/-- The expert of a tile. -/
noncomputable def tex (i : Fin 40) : Fin 8 := ⟨(ch.te (ix1 i)).toNat, ch.hte _⟩

theorem tix_eq (t : Fin (cfgA ch).N) : tix (crd ch t) = ix1 (ti ch t) := by
  funext a
  fin_cases a
  rfl

theorem blk0 (c : Dev nD) (t : Fin (cfgA ch).N) (h : (ti ch t).val < nAct ch) (r : Fin 1024) (k : Fin 2048) :
    (iblk ch m ρ c (0 : Fin 5) t (ix2 r k) : EReal)
      = m ((c : Thread nD τ).loc main_arg3) (ix2 ⟨(ti ch t).val * 1024 + r.val, by omega⟩ k) := by
  have e := t0_eq ch (crd ch t)
  have e0 : min (crd ch t 0).val (nAct ch - 1) = (ti ch t).val := by
    have : (crd ch t 0).val = (ti ch t).val := rfl
    omega
  rw [e0] at e
  unfold iblk
  refine congrArg (m ((c : Thread nD τ).loc main_arg3)) ?_
  funext a
  apply Fin.ext
  have q : ∀ (n : Fin 2 → ℕ), n = ![(ti ch t).val, 0] →
    n a * S1024x2048.size a + 1 * ((ix2 r k : S1024x2048.Idx) a).val
     = ((ix2 ⟨(ti ch t).val * 1024 + r.val, by omega⟩ k : S40960x2048.Idx) a).val := by
    rintro _ rfl
    fin_cases a
    · show (ti ch t).val * 1024 + 1 * r.val = (ti ch t).val * 1024 + r.val
      omega
    · show 0 * 2048 + 1 * k.val = k.val
      omega
  exact q _ e

theorem blk1 (c : Dev nD) (t : Fin (cfgA ch).N) (h : (ti ch t).val < nAct ch) (k : Fin 2048) (j : Fin 256) :
    (iblk ch m ρ c (1 : Fin 5) t (ix3 0 k j) : EReal)
      = m ((c : Thread nD τ).loc main_arg4) (ix3 (tex ch (ti ch t)) k ⟨(tf ch t).val * 256 + j.val, by omega⟩) := by
  have e := t1_eq ch (crd ch t)
  rw [tix_eq, show fcol ch (crd ch t) = (tf ch t).val from if_pos h] at e
  unfold iblk
  refine congrArg (m ((c : Thread nD τ).loc main_arg4)) ?_
  funext a
  apply Fin.ext
  have q : ∀ (n : Fin 3 → ℕ), n = ![(ch.te (ix1 (ti ch t))).toNat, 0, (tf ch t).val] →
    n a * S1x2048x256.size a + 1 * (((ix3 0 k j) : S1x2048x256.Idx) a).val
     = (((ix3 (tex ch (ti ch t)) k ⟨(tf ch t).val * 256 + j.val, by omega⟩) : S8x2048x5632.Idx) a).val := by
    rintro _ rfl
    fin_cases a
    · show (ch.te (ix1 (ti ch t))).toNat * 1 + 1 * 0 = (ch.te (ix1 (ti ch t))).toNat
      omega
    · show 0 * 2048 + 1 * k.val = k.val
      omega
    · show (tf ch t).val * 256 + 1 * j.val = (tf ch t).val * 256 + j.val
      omega
  exact q _ e

theorem blk2 (c : Dev nD) (t : Fin (cfgA ch).N) (h : (ti ch t).val < nAct ch) (k : Fin 2048) (j : Fin 256) :
    (iblk ch m ρ c (2 : Fin 5) t (ix3 0 k j) : EReal)
      = m ((c : Thread nD τ).loc main_arg5) (ix3 (tex ch (ti ch t)) k ⟨(tf ch t).val * 256 + j.val, by omega⟩) := by
  have e := t2_eq ch (crd ch t)
  rw [tix_eq, show fcol ch (crd ch t) = (tf ch t).val from if_pos h] at e
  unfold iblk
  refine congrArg (m ((c : Thread nD τ).loc main_arg5)) ?_
  funext a
  apply Fin.ext
  have q : ∀ (n : Fin 3 → ℕ), n = ![(ch.te (ix1 (ti ch t))).toNat, 0, (tf ch t).val] →
    n a * S1x2048x256.size a + 1 * (((ix3 0 k j) : S1x2048x256.Idx) a).val
     = (((ix3 (tex ch (ti ch t)) k ⟨(tf ch t).val * 256 + j.val, by omega⟩) : S8x2048x5632.Idx) a).val := by
    rintro _ rfl
    fin_cases a
    · show (ch.te (ix1 (ti ch t))).toNat * 1 + 1 * 0 = (ch.te (ix1 (ti ch t))).toNat
      omega
    · show 0 * 2048 + 1 * k.val = k.val
      omega
    · show (tf ch t).val * 256 + 1 * j.val = (tf ch t).val * 256 + j.val
      omega
  exact q _ e

theorem blk3 (c : Dev nD) (t : Fin (cfgA ch).N) (h : (ti ch t).val < nAct ch) (j : Fin 256) (d : Fin 2048) :
    (iblk ch m ρ c (3 : Fin 5) t (ix3 0 j d) : EReal)
      = m ((c : Thread nD τ).loc main_arg6) (ix3 (tex ch (ti ch t)) ⟨(tf ch t).val * 256 + j.val, by omega⟩ d) := by
  have e := t3_eq ch (crd ch t)
  rw [tix_eq, show fcol ch (crd ch t) = (tf ch t).val from if_pos h] at e
  unfold iblk
  refine congrArg (m ((c : Thread nD τ).loc main_arg6)) ?_
  funext a
  apply Fin.ext
  have q : ∀ (n : Fin 3 → ℕ), n = ![(ch.te (ix1 (ti ch t))).toNat, (tf ch t).val, 0] →
    n a * S1x256x2048.size a + 1 * (((ix3 0 j d) : S1x256x2048.Idx) a).val
     = (((ix3 (tex ch (ti ch t)) ⟨(tf ch t).val * 256 + j.val, by omega⟩ d) : S8x5632x2048.Idx) a).val := by
    rintro _ rfl
    fin_cases a
    · show (ch.te (ix1 (ti ch t))).toNat * 1 + 1 * 0 = (ch.te (ix1 (ti ch t))).toNat
      omega
    · show (tf ch t).val * 256 + 1 * j.val = (tf ch t).val * 256 + j.val
      omega
    · show 0 * 2048 + 1 * d.val = d.val
      omega
  exact q _ e

end Moe
-- ==== Proof.MoePay.lean ====
module

public import proofs.«01_k».proof.Proof.MoeRuns
public import Idealize.ShloMosaic.Lib.Pointwise

/-! One grid point's contribution to an output entry. -/

@[expose] public section

set_option maxRecDepth 16384
open Cert.Kernel2Ideal Cert.Kernel2Ideal.Gen Idealize.ShloMosaic Idealize.ShloMosaic.TcCoe

namespace Moe

/-- One hidden entry: the gated product of two sums. -/
noncomputable def hid (x g u : Fin 2048 → EReal) : EReal :=
  (∑ k : Fin 2048, x k * g k) * Ideal.div (Ideal.ofBits .f32 0x3F800000#32)
      (Ideal.ofBits .f32 0x3F800000#32 + Ideal.exp (Ideal.ofBits .f32 0x00000000#32 - ∑ k : Fin 2048, x k * g k))
    * ∑ k : Fin 2048, x k * u k

theorem pay1_at (r : Fin 1024) (d : Fin 2048) : k0_pay1 (F := Ideal) (ix2 r d) = (0 : EReal) := by
  pointwise [k0_pay1]

theorem pay2_at (x : Vec Ideal S1024x2048 .bf16) (g u : Vec Ideal S1x2048x256 .f32) (a : Vec Ideal S1024x2048 .f32)
    (w : Vec Ideal S1x256x2048 .f32) (r : Fin 1024) (d : Fin 2048) :
    k0_pay2 x g u a w (ix2 r d)
      = a (ix2 r d) + ∑ j : Fin 256, hid (fun k => x (ix2 r k)) (fun k => g (ix3 0 k j)) (fun k => u (ix3 0 k j)) * w (ix3 0 j d) := by
  pointwise [k0_pay2, hid]

theorem pay3_at (x : Vec Ideal S512x2048 .bf16) (g u : Vec Ideal S1x2048x256 .f32) (a : Vec Ideal S512x2048 .f32)
    (w : Vec Ideal S1x256x2048 .f32) (r : Fin 512) (d : Fin 2048) :
    k0_pay3 x g u a w (ix2 r d)
      = a (ix2 r d) + ∑ j : Fin 256, hid (fun k => x (ix2 r k)) (fun k => g (ix3 0 k j)) (fun k => u (ix3 0 k j)) * w (ix3 0 j d) := by
  pointwise [k0_pay3, hid]

end Moe
-- ==== Proof.MoeOut.lean ====
module

public import proofs.«01_k».proof.Proof.MoePay
public import Idealize.ShloMosaic.Lib.Pipeline.ValueKit
public import Idealize.ShloMosaic.Lib.Pipeline.ReadBack
public import Idealize.ShloMosaic.Lib.WritesUnit

/-! The output block each control path leaves, as the payload of its last store. -/

@[expose] public section

set_option maxRecDepth 16384
open Cert.Kernel2Ideal Cert.Kernel2Ideal.Gen Idealize.ShloMosaic Idealize.ShloMosaic.TcCoe Idealize.ShloMosaic.Tactic Idealize.SL.Sem

namespace Moe

theorem top_rows (r : Fin 1024) (d : Fin 2048) (hr : r.val < 512) :
    (ix2 r d : S1024x2048.Idx)
      = (Rect.unit (s := S1024x2048) ![0, 0] S512x2048.size inb_S1024x2048_S512x2048_0_0).emb (ix2 ⟨r.val, hr⟩ d : S512x2048.Idx) := by
  funext a
  refine Fin.ext ?_
  fin_cases a
  · show r.val = 0 + 1 * r.val
    omega
  · show d.val = 0 + 1 * d.val
    omega

theorem canon_at {S : Shape} (R : Rect S) (w : R.shape.Idx → Elt Ideal .f32) (L : List (View.Piece (Elt Ideal) S .f32)) (y : S.Idx) (x : R.shape.Idx)
    (h : y = R.emb x) : View.canon ((⟨R, w⟩ : View.Piece (Elt Ideal) S .f32) :: L) y = w x := by
  subst h
  exact View.canon_cons_emb R w L x

theorem read_at {S : Shape} (v : View sig .tc .vmem S .f32) (f : v.ty.Contents (Elt Ideal)) (R : Rect S) (w : R.shape.Idx → Elt Ideal .f32) (y : S.Idx) (x : R.shape.Idx)
    (h : y = R.emb x) : v.read (Elt Ideal) (v.writes (Elt Ideal) f [(⟨R, w⟩ : View.Piece (Elt Ideal) S .f32)]) y = w x := by
  subst h
  exact View.read_writes_cons_emb v f R w [] x

theorem top_canon (r : Fin 1024) (d : Fin 2048) (hr : r.val < 512) (w : S512x2048.Idx → Elt Ideal .f32)
    (L : List (View.Piece (Elt Ideal) S1024x2048 .f32)) :
    View.canon ((⟨Rect.unit (s := S1024x2048) ![0, 0] S512x2048.size inb_S1024x2048_S512x2048_0_0, w⟩ : View.Piece (Elt Ideal) S1024x2048 .f32) :: L) (ix2 r d)
      = w (ix2 ⟨r.val, hr⟩ d) := by
  exact canon_at (Rect.unit (s := S1024x2048) ![0, 0] S512x2048.size inb_S1024x2048_S512x2048_0_0) w L (ix2 r d) (ix2 ⟨r.val, hr⟩ d : S512x2048.Idx) (top_rows r d hr)

theorem top_read (r : Fin 1024) (d : Fin 2048) (hr : r.val < 512) (a : Memref sig .tc .vmem S1024x2048 .f32) (f : a.view.ty.Contents (Elt Ideal))
    (w : S512x2048.Idx → Elt Ideal .f32) :
    a.view.read (Elt Ideal) (a.view.writes (Elt Ideal) f [(⟨Rect.unit (s := S1024x2048) ![0, 0] S512x2048.size inb_S1024x2048_S512x2048_0_0, w⟩ : View.Piece (Elt Ideal) S1024x2048 .f32)]) (ix2 r d)
      = w (ix2 ⟨r.val, hr⟩ d) := by
  exact read_at a.view f (Rect.unit (s := S1024x2048) ![0, 0] S512x2048.size inb_S1024x2048_S512x2048_0_0) w (ix2 r d) (ix2 ⟨r.val, hr⟩ d : S512x2048.Idx) (top_rows r d hr)

theorem fill_read (a : Memref sig .tc .vmem S1024x2048 .f32) (Z : S1024x2048.Idx → Elt Ideal .f32) :
    a.view.readCov [(⟨Rect.unit (s := S1024x2048) ![0, 0] ![1024, 2048] inb_S1024x2048_S1024x2048_0_0, Z⟩ : View.Piece (Elt Ideal) S1024x2048 .f32)]
      (Rect.unit (s := S1024x2048) ![0, 0] ![512, 2048] inb_S1024x2048_S512x2048_0_0).toLoadRect
      = View.ld (Val := Elt Ideal) (e' := .f32) Z (Rect.unit (s := S1024x2048) ![0, 0] S512x2048.size inb_S1024x2048_S512x2048_0_0) :=
  View.readCov_fill (s := S1024x2048) a.view inb_S1024x2048_S1024x2048_0_0 Z [] (Rect.unit (s := S1024x2048) ![0, 0] S512x2048.size inb_S1024x2048_S512x2048_0_0)
    (Fin.forall_fin_two.mpr ⟨rfl, rfl⟩)

theorem outA_eq (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : k0_cond2 (word i T1) = 1#1) (h3 : ¬(k0_cond3 (word i T1) = 1#1)) :
    outA c i arg5 harg5 arg6 harg6 arg7 harg7 arg8 harg8 arg9 harg9 T0 T1 T2 x0 x1 x2 x3 h1 h2 h3 = k0_pay2 (F := Ideal) x0 x1 x2 (k0_pay1 (F := Ideal)) x3 := by
  unfold outA runA
  frame_out
  simp only [View.read_rep]

theorem outB_eq (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : k0_cond2 (word i T1) = 1#1) (h3 : ¬(k0_cond3 (word i T1) = 1#1)) :
    outB c i arg5 harg5 arg6 harg6 arg7 harg7 arg8 harg8 arg9 harg9 T0 T1 T2 x0 x1 x2 x3 xo4 h1 h2 h3 = k0_pay2 (F := Ideal) x0 x1 x2 xo4 x3 := by
  unfold outB runB
  frame_out
  simp only [View.read_rep]

theorem outC_eq (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32))
    (h1 : k0_cond1 i = 1#1) (h2 : ¬(k0_cond2 (word i T1) = 1#1)) (h3 : k0_cond3 (word i T1) = 1#1) (r : Fin 1024) (d : Fin 2048) (hr : r.val < 512) :
    outC c i arg5 harg5 arg6 harg6 arg7 harg7 arg8 harg8 arg9 harg9 T0 T1 T2 x0 x1 x2 x3 h1 h2 h3 (ix2 r d) = k0_pay3 (F := Ideal) (View.ld (Val := Elt Ideal) (e' := .bf16) x0 (Rect.unit (s := S1024x2048) ![0, 0] S512x2048.size inb_S1024x2048_S512x2048_0_0)) x1 x2 (View.ld (Val := Elt Ideal) (e' := .f32) (k0_pay1 (F := Ideal)) (Rect.unit (s := S1024x2048) ![0, 0] S512x2048.size inb_S1024x2048_S512x2048_0_0)) x3 (ix2 ⟨r.val, hr⟩ d) := by
  unfold outC runC
  frame_out
  simp only [View.read_rep]
  refine (top_canon r d hr _ _).trans ?_
  rw [fill_read arg9]

theorem outD_eq (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Ideal .i32)) (T1 : (S40.Idx → Elt Ideal .i32)) (T2 : (S1.Idx → Elt Ideal .i32))
    (x0 : (S1024x2048.Idx → Elt Ideal .bf16)) (x1 : (S1x2048x256.Idx → Elt Ideal .f32)) (x2 : (S1x2048x256.Idx → Elt Ideal .f32)) (x3 : (S1x256x2048.Idx → Elt Ideal .f32)) (xo4 : (S1024x2048.Idx → Elt Ideal .f32))
    (h1 : ¬(k0_cond1 i = 1#1)) (h2 : ¬(k0_cond2 (word i T1) = 1#1)) (h3 : k0_cond3 (word i T1) = 1#1) (r : Fin 1024) (d : Fin 2048) (hr : r.val < 512) :
    outD c i arg5 harg5 arg6 harg6 arg7 harg7 arg8 harg8 arg9 harg9 T0 T1 T2 x0 x1 x2 x3 xo4 h1 h2 h3 (ix2 r d) = k0_pay3 (F := Ideal) (View.ld (Val := Elt Ideal) (e' := .bf16) x0 (Rect.unit (s := S1024x2048) ![0, 0] S512x2048.size inb_S1024x2048_S512x2048_0_0)) x1 x2 (View.ld (Val := Elt Ideal) (e' := .f32) xo4 (Rect.unit (s := S1024x2048) ![0, 0] S512x2048.size inb_S1024x2048_S512x2048_0_0)) x3 (ix2 ⟨r.val, hr⟩ d) := by
  unfold outD runD
  frame_out
  simp only [View.read_rep]
  exact top_read r d hr arg9 _ _

end Moe
-- ==== Proof.MoeSum.lean ====
module

public import proofs.«01_k».proof.Proof.MoeBlk
public import proofs.«01_k».proof.Proof.MoeOut

/-! What the output block of a tile in use holds after each column block: the partial sums over the hidden columns. -/

@[expose] public section

set_option maxRecDepth 16384
open Cert.Kernel2Ideal Cert.Kernel2Ideal.Gen Idealize.ShloMosaic Idealize.ShloMosaic.TcCoe Idealize.ShloMosaic.Tactic Idealize.SL.Sem

namespace Moe

variable (ch : Tab) (m : (ℓ : Loc nD τ sig) → Buf (Elt Ideal) ℓ) (ρ : Dev nD → PrngReg)

/-- Hidden column `j`'s contribution to the output at row `R` and column `d`, under expert `e`. -/
noncomputable def term (c : Dev nD) (e : Fin 8) (R : Fin 40960) (d : Fin 2048) (j : Fin 5632) : EReal :=
  hid (fun k => (m ((c : Thread nD τ).loc main_arg3) : Vec Ideal S40960x2048 .bf16) (ix2 R k))
      (fun k => (m ((c : Thread nD τ).loc main_arg4) : Vec Ideal S8x2048x5632 .f32) (ix3 e k j))
      (fun k => (m ((c : Thread nD τ).loc main_arg5) : Vec Ideal S8x2048x5632 .f32) (ix3 e k j))
    * (m ((c : Thread nD τ).loc main_arg6) : Vec Ideal S8x5632x2048 .f32) (ix3 e j d)

/-- The same at a column number, nothing past the last. -/
noncomputable def termN (c : Dev nD) (e : Fin 8) (R : Fin 40960) (d : Fin 2048) (n : ℕ) : EReal :=
  if h : n < 5632 then term m c e R d ⟨n, h⟩ else 0

/-- A tile's row in the whole array. -/
def trow (i : Fin 40) (r : Fin 1024) : Fin 40960 := ⟨i.val * 1024 + r.val, by omega⟩

theorem contrib (c : Dev nD) (t : Fin (cfgA ch).N) (h : (ti ch t).val < nAct ch) (r : Fin 1024) (d : Fin 2048) :
    (∑ j : Fin 256, hid (fun k => iblk ch m ρ c (0 : Fin 5) t (ix2 r k)) (fun k => iblk ch m ρ c (1 : Fin 5) t (ix3 0 k j))
        (fun k => iblk ch m ρ c (2 : Fin 5) t (ix3 0 k j)) * iblk ch m ρ c (3 : Fin 5) t (ix3 0 j d) : EReal)
      = ∑ j ∈ Finset.range 256, termN m c (tex ch (ti ch t)) (trow (ti ch t) r) d ((tf ch t).val * 256 + j) := by
  rw [Finset.sum_range]
  refine Finset.sum_congr rfl fun j _ => ?_
  have hj : (tf ch t).val * 256 + j.val < 5632 := by omega
  unfold termN
  rw [dif_pos hj]
  unfold term
  rw [show (fun k => (iblk ch m ρ c (0 : Fin 5) t (ix2 r k) : EReal)) = _ from funext fun k => blk0 ch m ρ c t h r k,
    show (fun k => (iblk ch m ρ c (1 : Fin 5) t (ix3 0 k j) : EReal)) = _ from funext fun k => blk1 ch m ρ c t h k j,
    show (fun k => (iblk ch m ρ c (2 : Fin 5) t (ix3 0 k j) : EReal)) = _ from funext fun k => blk2 ch m ρ c t h k j,
    show (iblk ch m ρ c (3 : Fin 5) t (ix3 0 j d) : EReal) = _ from blk3 ch m ρ c t h j d]
  rfl

theorem ld_at {e : EltTy} (x : S1024x2048.Idx → Elt Ideal e) (r : Fin 1024) (k : Fin 2048) (hr : r.val < 512) :
    View.ld (Val := Elt Ideal) (e' := e) x (Rect.unit (s := S1024x2048) ![0, 0] S512x2048.size inb_S1024x2048_S512x2048_0_0) (ix2 ⟨r.val, hr⟩ k : S512x2048.Idx)
      = x (ix2 r k) :=
  congrArg x (top_rows r k hr).symm

theorem pay3_ld (x : S1024x2048.Idx → Elt Ideal .bf16) (g u : Vec Ideal S1x2048x256 .f32) (a : S1024x2048.Idx → Elt Ideal .f32)
    (w : Vec Ideal S1x256x2048 .f32) (r : Fin 1024) (d : Fin 2048) (hr : r.val < 512) :
    (k0_pay3 (F := Ideal) (View.ld (Val := Elt Ideal) (e' := .bf16) x (Rect.unit (s := S1024x2048) ![0, 0] S512x2048.size inb_S1024x2048_S512x2048_0_0)) g u (View.ld (Val := Elt Ideal) (e' := .f32) a (Rect.unit (s := S1024x2048) ![0, 0] S512x2048.size inb_S1024x2048_S512x2048_0_0)) w (ix2 ⟨r.val, hr⟩ d) : EReal)
      = a (ix2 r d) + ∑ j : Fin 256, hid (fun k => x (ix2 r k)) (fun k => g (ix3 0 k j)) (fun k => u (ix3 0 k j)) * w (ix3 0 j d) := by
  refine (pay3_at _ g u _ w ⟨r.val, hr⟩ d).trans ?_
  rw [show (fun k => (View.ld (Val := Elt Ideal) (e' := .bf16) x (Rect.unit (s := S1024x2048) ![0, 0] S512x2048.size inb_S1024x2048_S512x2048_0_0) (ix2 ⟨r.val, hr⟩ k : S512x2048.Idx) : EReal)) = fun k => (x (ix2 r k) : EReal) from funext fun k => ld_at x r k hr,
    show (View.ld (Val := Elt Ideal) (e' := .f32) a (Rect.unit (s := S1024x2048) ![0, 0] S512x2048.size inb_S1024x2048_S512x2048_0_0) (ix2 ⟨r.val, hr⟩ d : S512x2048.Idx) : EReal) = a (ix2 r d) from ld_at a r d hr]

/-- One point's effect on an entry in use: the sum of its column block, added to what was there unless it is the first. -/
theorem step_at (c : Dev nD) (t : Fin (cfgA ch).N) (h : (ti ch t).val < nAct ch) (r : Fin 1024) (d : Fin 2048)
    (hr : (r.val : ℤ) < (ch.tr (ix1 (ti ch t))).toInt) (prev : S1024x2048.Idx → Elt Ideal .f32) :
    (step0 ch m ρ c t prev (ix2 r d) : EReal)
      = (if t.val % 22 = 0 then (0 : EReal) else prev (ix2 r d))
        + ∑ j ∈ Finset.range 256, termN m c (tex ch (ti ch t)) (trow (ti ch t) r) d ((tf ch t).val * 256 + j) := by
  rw [← contrib ch m ρ c t h r d]
  have hw : word (crd ch t) ch.tr = ch.tr (ix1 (ti ch t)) := by rw [word_eq, tix_eq]
  have i2 := cond2_iff (word (crd ch t) ch.tr)
  have i3 := cond3_iff (word (crd ch t) ch.tr)
  rw [hw] at i2 i3
  rw [← hw] at i2 i3
  have hr' : (r.val : ℤ) < (word (crd ch t) ch.tr).toInt := by rw [hw]; exact hr
  by_cases q1 : C1 ch t
  · rw [if_pos ((c1_iff ch t).1 q1)]
    by_cases q2 : C2 ch t
    · rw [step0_A ch m ρ c t prev q1 q2 (not3_of_2 q2), outA_eq]
      refine (pay2_at _ _ _ _ _ r d).trans ?_
      rw [pay1_at]
    · have q3 : C3 ch t := i3.2 ⟨by omega, not_lt.1 fun hh => q2 (i2.2 hh)⟩
      have h5 : r.val < 512 := by have := (i3.1 q3).2; omega
      rw [step0_C ch m ρ c t prev q1 q2 q3, outC_eq (hr := h5)]
      refine (pay3_ld _ _ _ _ _ r d h5).trans ?_
      rw [pay1_at]
  · rw [if_neg (fun hh => q1 ((c1_iff ch t).2 hh))]
    by_cases q2 : C2 ch t
    · rw [step0_B ch m ρ c t prev q1 q2 (not3_of_2 q2), outB_eq]
      exact pay2_at _ _ _ _ _ r d
    · have q3 : C3 ch t := i3.2 ⟨by omega, not_lt.1 fun hh => q2 (i2.2 hh)⟩
      have h5 : r.val < 512 := by have := (i3.1 q3).2; omega
      rw [step0_D ch m ρ c t prev q1 q2 q3, outD_eq (hr := h5)]
      exact pay3_ld _ _ _ _ _ r d h5

/-- After column block `f` of a tile in use, an entry in use holds the sum over the columns up to that block's end. -/
theorem traj_at (c : Dev nD) (i : Fin 40) (h : i.val < nAct ch) (r : Fin 1024) (d : Fin 2048)
    (hr : (r.val : ℤ) < (ch.tr (ix1 i)).toInt) : ∀ (f : ℕ) (hf : f < 22) (hn : i.val * 22 + f < (cfgA ch).N),
    (traj0 ch m ρ c (i.val * 22 + f) hn (ix2 r d) : EReal)
      = ∑ n ∈ Finset.range ((f + 1) * 256), termN m c (tex ch i) (trow i r) d n := by
  intro f
  induction f with
  | zero =>
    intro hf hn
    have e1 : ti ch ⟨i.val * 22 + 0, hn⟩ = i := Fin.ext (by rw [ti_val]; show (i.val * 22 + 0) / 22 = i.val; omega)
    have e2 : (tf ch ⟨i.val * 22 + 0, hn⟩).val = 0 := by rw [tf_val]; show (i.val * 22 + 0) % 22 = 0; omega
    have s := step_at ch m ρ c ⟨i.val * 22 + 0, hn⟩ (by rw [e1]; exact h) r d (by rw [e1]; exact hr) (prev0 ch m ρ c ⟨i.val * 22 + 0, hn⟩)
    rw [e1, e2, if_pos (show (i.val * 22 + 0) % 22 = 0 by omega), zero_add] at s
    refine ((congrFun (traj0_eq ch m ρ c ⟨i.val * 22 + 0, hn⟩) _).trans s).trans ?_
    simp only [Nat.zero_mul, Nat.zero_add, Nat.one_mul]
  | succ f ih =>
    intro hf hn
    have e1 : ti ch ⟨i.val * 22 + (f + 1), hn⟩ = i := Fin.ext (by rw [ti_val]; show (i.val * 22 + (f + 1)) / 22 = i.val; omega)
    have e2 : (tf ch ⟨i.val * 22 + (f + 1), hn⟩).val = f + 1 := by rw [tf_val]; show (i.val * 22 + (f + 1)) % 22 = f + 1; omega
    have s := step_at ch m ρ c ⟨i.val * 22 + (f + 1), hn⟩ (by rw [e1]; exact h) r d (by rw [e1]; exact hr) (prev0 ch m ρ c ⟨i.val * 22 + (f + 1), hn⟩)
    rw [e1, e2, if_neg (show ¬ (i.val * 22 + (f + 1)) % 22 = 0 by omega)] at s
    refine ((congrFun (traj0_eq ch m ρ c ⟨i.val * 22 + (f + 1), hn⟩) _).trans s).trans ?_
    have p : prev0 ch m ρ c ⟨i.val * 22 + (f + 1), hn⟩ = traj0 ch m ρ c (i.val * 22 + f) (Nat.lt_of_succ_lt hn) := by
      unfold prev0
      exact dif_neg (show ¬ i.val * 22 + (f + 1) = 0 by omega)
    rw [p, ih (by omega), show (f + 1 + 1) * 256 = (f + 1) * 256 + 256 by omega, Finset.sum_range_add]

/-- After its last column block, an entry in use of a tile in use holds the whole sum. -/
theorem last_at (c : Dev nD) (t : Fin (cfgA ch).N) (ht : (t.val + 1) % 22 = 0) (h : (ti ch t).val < nAct ch) (r : Fin 1024) (d : Fin 2048)
    (hr : (r.val : ℤ) < (ch.tr (ix1 (ti ch t))).toInt) :
    (traj0 ch m ρ c t.val t.isLt (ix2 r d) : EReal)
      = ∑ j : Fin 5632, term m c (tex ch (ti ch t)) (trow (ti ch t) r) d j := by
  have e : t.val = (ti ch t).val * 22 + 21 := by rw [ti_val]; omega
  have g : ∀ (n : ℕ) (hn : n < (cfgA ch).N), n = (ti ch t).val * 22 + 21 →
      (traj0 ch m ρ c n hn (ix2 r d) : EReal) = ∑ n ∈ Finset.range ((21 + 1) * 256), termN m c (tex ch (ti ch t)) (trow (ti ch t) r) d n := by
    rintro _ hn rfl
    exact traj_at ch m ρ c (ti ch t) h r d hr 21 (by omega) hn
  rw [g _ _ e, show (21 + 1) * 256 = 5632 from rfl, Finset.sum_range]
  refine Finset.sum_congr rfl fun j _ => ?_
  unfold termN
  rw [dif_pos j.isLt]

end Moe
-- ==== Proof.MoeBridge.lean ====
module

public import proofs.«01_k».proof.Proof.MoeSum

/-! The output array of the expert feed-forward after the whole run, at the entries in use. -/

@[expose] public section

set_option maxRecDepth 16384
open Cert.Kernel2Ideal Cert.Kernel2Ideal.Gen Idealize.ShloMosaic Idealize.ShloMosaic.TcCoe Idealize.ShloMosaic.Tactic Idealize.SL.Sem

namespace Moe

variable (ch : Tab) (m : (ℓ : Loc nD τ sig) → Buf (Elt Ideal) ℓ) (ρ : Dev nD → PrngReg)

theorem t4_tab : ∀ t : Fin grid0.N, ∀ a : Fin 2, cc0_transform_4 (grid0.coords t) a = (![t.val / 22, 0] : Fin 2 → ℕ) a := by decide +kernel

theorem index4 (t : Fin (cfgA ch).N) (a : Fin 2) : ((cfgA ch).win (4 : Fin 5)).index t a = (![t.val / 22, 0] : Fin 2 → ℕ) a := t4_tab t a

theorem cov4 : ((cfgA ch).win (4 : Fin 5)).Covers := by
  refine ⟨fun a => ?_, fun β => ?_⟩
  · fin_cases a
    · exact Nat.succ_pos 1023
    · exact Nat.succ_pos 2047
  · have h0 : (β (0 : Fin 2)).val < 40 := lt_of_lt_of_eq (β (0 : Fin 2)).isLt (show (40960 + 1024 - 1) / 1024 = 40 by norm_num)
    have h1 : (β (1 : Fin 2)).val < 1 := lt_of_lt_of_eq (β (1 : Fin 2)).isLt (show (2048 + 2048 - 1) / 2048 = 1 by norm_num)
    have hN : (β (0 : Fin 2)).val * 22 + 21 < (cfgA ch).N := by
      show (β (0 : Fin 2)).val * 22 + 21 < 880
      omega
    refine ⟨⟨(β (0 : Fin 2)).val * 22 + 21, hN⟩, ?_, fun a => ⟨?_, .inl ?_⟩⟩
    · rw [flush4, beq_iff_eq]
      show ((β (0 : Fin 2)).val * 22 + 21 + 1) % 22 = 0
      omega
    · refine (index4 ch _ a).trans ?_
      fin_cases a
      · show ((β (0 : Fin 2)).val * 22 + 21) / 22 = (β (0 : Fin 2)).val
        omega
      · show 0 = (β (1 : Fin 2)).val
        omega
    · rfl

theorem emb4 (t : Fin (cfgA ch).N) (r : Fin 1024) (d : Fin 2048) :
    (((cfgA ch).win (4 : Fin 5)).blk t).view.emb (ix2 r d : S1024x2048.Idx) = (ix2 (trow (ti ch t) r) d : S40960x2048.Idx) := by
  funext a
  apply Fin.ext
  have e := index4 ch t
  have q : ∀ (n : Fin 2 → ℕ), (∀ a, n a = (![t.val / 22, 0] : Fin 2 → ℕ) a) →
    n a * S1024x2048.size a + 1 * ((ix2 r d : S1024x2048.Idx) a).val
     = ((ix2 (trow (ti ch t) r) d : S40960x2048.Idx) a).val := by
    intro n hn
    rw [hn a]
    fin_cases a
    · show t.val / 22 * 1024 + 1 * r.val = (ti ch t).val * 1024 + r.val
      rw [ti_val]; omega
    · show 0 * 2048 + 1 * d.val = d.val
      omega
  exact q _ e

/-- The tile and the row within it of a row of the whole array. -/
def tileOf (R : Fin 40960) : Fin 40 := ⟨R.val / 1024, by omega⟩
def rowOf (R : Fin 40960) : Fin 1024 := ⟨R.val % 1024, by omega⟩

theorem tileOf_trow (i : Fin 40) (r : Fin 1024) : tileOf (trow i r) = i := Fin.ext (show (i.val * 1024 + r.val) / 1024 = i.val by omega)
theorem rowOf_trow (i : Fin 40) (r : Fin 1024) : rowOf (trow i r) = r := Fin.ext (show (i.val * 1024 + r.val) % 1024 = r.val by omega)

theorem out_at (c : Dev nD) (R : Fin 40960) (d : Fin 2048) (h : (tileOf R).val < nAct ch)
    (hr : ((rowOf R).val : ℤ) < (ch.tr (ix1 (tileOf R))).toInt) :
    ((dats ch m ρ 0 c).arrAt (4 : Fin 5) (cfgA ch).N (ix2 R d : S40960x2048.Idx) : EReal)
      = ∑ j : Fin 5632, term m c (tex ch (tileOf R)) R d j := by
  have P := (dats ch m ρ 0 c).arrAt_forall_of_covers (4 : Fin 5)
    (fun (i : S40960x2048.Idx) (v : EReal) => ∀ (R : Fin 40960) (d : Fin 2048), i = ix2 R d → (tileOf R).val < nAct ch →
      ((rowOf R).val : ℤ) < (ch.tr (ix1 (tileOf R))).toInt → v = ∑ j : Fin 5632, term m c (tex ch (tileOf R)) R d j) (cov4 ch)
    (fun t hf y R d hi h hr => ?_) (ix2 R d : S40960x2048.Idx)
  · exact P R d rfl h hr
  · obtain ⟨r, d', rfl⟩ : ∃ (r : Fin 1024) (d' : Fin 2048), y = (ix2 r d' : S1024x2048.Idx) := ⟨y (0 : Fin 2), y (1 : Fin 2), by funext a; fin_cases a <;> rfl⟩
    have e := (emb4 ch t r d').symm.trans hi
    obtain rfl : R = trow (ti ch t) r := (congrFun e (0 : Fin 2)).symm
    obtain rfl : d = d' := (congrFun e (1 : Fin 2)).symm
    rw [flush4, beq_iff_eq] at hf
    rw [tileOf_trow] at h hr ⊢
    rw [rowOf_trow] at hr
    exact last_at ch m ρ c t hf h r d hr

end Moe
-- ==== Proof.MoeRunsB.lean ====
module

public import proofs.«01_k».proof.Proof.Gen.Kernel2.Skeleton
public import proofs.«01_k».proof.Proof.Gen.Kernel2.Launch
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The body of the expert feed-forward, run along each of its control paths. -/

@[expose] public section

set_option maxRecDepth 16384
set_option Elab.async false

noncomputable section

namespace MoeB

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables, whole, as the body is handed them. -/
abbrev tbM0_0 : Memref sig .tc .smem S40 .i32 := Memref.whole main_arg0
abbrev tbM0_1 : Memref sig .tc .smem S40 .i32 := Memref.whole main_arg1
abbrev tbM0_2 : Memref sig .tc .smem S1 .i32 := Memref.whole main_arg2

/-- The row count the body reads at a grid point. -/
abbrev word (i : grid0.Coords) (T1 : (S40.Idx → Elt Bits .i32)) : BitVec 32 :=
  View.readAt (Elt Bits) (tbM0_1).view (Rect.unit (s := S40) (k0_off1 i) S1.size (k0_off1_inb i)).toLoadRect T1 (Shape.Idx.first (numel1_S1.symm ▸ Nat.one_pos))

/-- One staging buffer of the output, through which its contents are stated. -/
abbrev VO0_4 : View sig .tc .vmem S1024x2048 .f32 := (Memref.whole cc0_stg4_0 : Memref sig .tc .vmem S1024x2048 .f32).view

set_option backward.proofsInPublic true in
set_option maxHeartbeats 8000000 in
/-- First column block, all rows in use. The pieces stored in the output block, and the run of the body to them. -/
noncomputable def runA (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : k0_cond2 (word i T1) = 1#1) (h3 : ¬(k0_cond3 (word i T1) = 1#1)) :
    { out0 : List (View.Piece (Elt Bits) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩

    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = k0_cond2 _ = _; exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverA (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : k0_cond2 (word i T1) = 1#1) (h3 : ¬(k0_cond3 (word i T1) = 1#1)) (y : S1024x2048.Idx) :
    ∃ pc ∈ (runA c i arg5 harg5 arg6 harg6 arg7 harg7 arg8 harg8 arg9 harg9 T0 T1 T2 x0 x1 x2 x3 h1 h2 h3).1, y ∈ pc.1.set :=
  ⟨_, List.mem_cons_of_mem _ (List.mem_singleton_self _), View.mem_set_unit_zero (by decide) inb_S1024x2048_S1024x2048_0_0 y⟩

/-- What is left in the output block. -/
noncomputable def outA (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : k0_cond2 (word i T1) = 1#1) (h3 : ¬(k0_cond3 (word i T1) = 1#1)) : (S1024x2048.Idx → Elt Bits .f32) :=
  VO0_4.read (Elt Bits) (VO0_4.writes (Elt Bits) VO0_4.junk (runA c i arg5 harg5 arg6 harg6 arg7 harg7 arg8 harg8 arg9 harg9 T0 T1 T2 x0 x1 x2 x3 h1 h2 h3).1)

set_option backward.proofsInPublic true in
set_option maxHeartbeats 8000000 in
/-- A later column block, all rows in use. The pieces stored in the output block, and the run of the body to them. -/
noncomputable def runB (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32)) (xo4 : (S1024x2048.Idx → Elt Bits .f32))
    (h1 : ¬(k0_cond1 i = 1#1)) (h2 : k0_cond2 (word i T1) = 1#1) (h3 : ¬(k0_cond3 (word i T1) = 1#1)) :
    { out0 : List (View.Piece (Elt Bits) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare xo4
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%f4, %hf4, HO4⟩, Hk⟩
    obtain rfl := harg9.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = k0_cond2 _ = _; exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverB (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32)) (xo4 : (S1024x2048.Idx → Elt Bits .f32))
    (h1 : ¬(k0_cond1 i = 1#1)) (h2 : k0_cond2 (word i T1) = 1#1) (h3 : ¬(k0_cond3 (word i T1) = 1#1)) (y : S1024x2048.Idx) :
    ∃ pc ∈ (runB c i arg5 harg5 arg6 harg6 arg7 harg7 arg8 harg8 arg9 harg9 T0 T1 T2 x0 x1 x2 x3 xo4 h1 h2 h3).1, y ∈ pc.1.set :=
  ⟨_, List.mem_singleton_self _, View.mem_set_unit_zero (by decide) inb_S1024x2048_S1024x2048_0_0 y⟩

/-- What is left in the output block. -/
noncomputable def outB (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32)) (xo4 : (S1024x2048.Idx → Elt Bits .f32))
    (h1 : ¬(k0_cond1 i = 1#1)) (h2 : k0_cond2 (word i T1) = 1#1) (h3 : ¬(k0_cond3 (word i T1) = 1#1)) : (S1024x2048.Idx → Elt Bits .f32) :=
  VO0_4.read (Elt Bits) (VO0_4.writes (Elt Bits) VO0_4.junk (runB c i arg5 harg5 arg6 harg6 arg7 harg7 arg8 harg8 arg9 harg9 T0 T1 T2 x0 x1 x2 x3 xo4 h1 h2 h3).1)

set_option backward.proofsInPublic true in
set_option maxHeartbeats 8000000 in
/-- First column block, the first half of the rows in use. The pieces stored in the output block, and the run of the body to them. -/
noncomputable def runC (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : ¬(k0_cond2 (word i T1) = 1#1)) (h3 : k0_cond3 (word i T1) = 1#1) :
    { out0 : List (View.Piece (Elt Bits) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩

    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = ¬(k0_cond2 _ = _); exact h2) | (guard_target = k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverC (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : ¬(k0_cond2 (word i T1) = 1#1)) (h3 : k0_cond3 (word i T1) = 1#1) (y : S1024x2048.Idx) :
    ∃ pc ∈ (runC c i arg5 harg5 arg6 harg6 arg7 harg7 arg8 harg8 arg9 harg9 T0 T1 T2 x0 x1 x2 x3 h1 h2 h3).1, y ∈ pc.1.set :=
  ⟨_, List.mem_cons_of_mem _ (List.mem_singleton_self _), View.mem_set_unit_zero (by decide) inb_S1024x2048_S1024x2048_0_0 y⟩

/-- What is left in the output block. -/
noncomputable def outC (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : ¬(k0_cond2 (word i T1) = 1#1)) (h3 : k0_cond3 (word i T1) = 1#1) : (S1024x2048.Idx → Elt Bits .f32) :=
  VO0_4.read (Elt Bits) (VO0_4.writes (Elt Bits) VO0_4.junk (runC c i arg5 harg5 arg6 harg6 arg7 harg7 arg8 harg8 arg9 harg9 T0 T1 T2 x0 x1 x2 x3 h1 h2 h3).1)

set_option backward.proofsInPublic true in
set_option maxHeartbeats 8000000 in
/-- A later column block, the first half of the rows in use. The pieces stored in the output block, and the run of the body to them. -/
noncomputable def runD (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32)) (xo4 : (S1024x2048.Idx → Elt Bits .f32))
    (h1 : ¬(k0_cond1 i = 1#1)) (h2 : ¬(k0_cond2 (word i T1) = 1#1)) (h3 : k0_cond3 (word i T1) = 1#1) :
    { out0 : List (View.Piece (Elt Bits) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare xo4
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (arg9.view.loc (c : Thread nD τ) ↦[arg9.view.set]{fullShare} arg9.view.writes (Elt Bits) (harg9.unread xo4) out0)) -∗ K ⟨⟩))
          ⊢ wp frame (wpE (defs₀ (F := Bits)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%f4, %hf4, HO4⟩, Hk⟩
    obtain rfl := harg9.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = ¬(k0_cond2 _ = _); exact h2) | (guard_target = k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexact HO4⟩

/-- What is left in the output block. -/
noncomputable def outD (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32)) (xo4 : (S1024x2048.Idx → Elt Bits .f32))
    (h1 : ¬(k0_cond1 i = 1#1)) (h2 : ¬(k0_cond2 (word i T1) = 1#1)) (h3 : k0_cond3 (word i T1) = 1#1) : (S1024x2048.Idx → Elt Bits .f32) :=
  arg9.view.read (Elt Bits) (arg9.view.writes (Elt Bits) (harg9.unread xo4) (runD c i arg5 harg5 arg6 harg6 arg7 harg7 arg8 harg8 arg9 harg9 T0 T1 T2 x0 x1 x2 x3 xo4 h1 h2 h3).1)

set_option backward.proofsInPublic true in
set_option maxHeartbeats 8000000 in
/-- First column block, no row in use. The pieces stored in the output block, and the run of the body to them. -/
noncomputable def runE (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : ¬(k0_cond2 (word i T1) = 1#1)) (h3 : ¬(k0_cond3 (word i T1) = 1#1)) :
    { out0 : List (View.Piece (Elt Bits) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)) -∗ K ⟨⟩))
          ⊢ wp frame (wpE (defs₀ (F := Bits)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩

    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ = _; exact h1) | (guard_target = ¬(k0_cond2 _ = _); exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The stores cover the block: the zeros were stored first. -/
theorem coverE (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : ¬(k0_cond2 (word i T1) = 1#1)) (h3 : ¬(k0_cond3 (word i T1) = 1#1)) (y : S1024x2048.Idx) :
    ∃ pc ∈ (runE c i arg5 harg5 arg6 harg6 arg7 harg7 arg8 harg8 arg9 harg9 T0 T1 T2 x0 x1 x2 x3 h1 h2 h3).1, y ∈ pc.1.set :=
  ⟨_, List.mem_singleton_self _, View.mem_set_unit_zero (by decide) inb_S1024x2048_S1024x2048_0_0 y⟩

/-- What is left in the output block. -/
noncomputable def outE (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32))
    (h1 : k0_cond1 i = 1#1) (h2 : ¬(k0_cond2 (word i T1) = 1#1)) (h3 : ¬(k0_cond3 (word i T1) = 1#1)) : (S1024x2048.Idx → Elt Bits .f32) :=
  VO0_4.read (Elt Bits) (VO0_4.writes (Elt Bits) VO0_4.junk (runE c i arg5 harg5 arg6 harg6 arg7 harg7 arg8 harg8 arg9 harg9 T0 T1 T2 x0 x1 x2 x3 h1 h2 h3).1)

set_option backward.proofsInPublic true in
set_option maxHeartbeats 8000000 in
/-- A later column block, no row in use: nothing is stored. The pieces stored in the output block, and the run of the body to them. -/
noncomputable def runG (c : Dev nD) (i : grid0.Coords) (arg5 : Memref sig .tc .vmem S1024x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole) (T0 : (S40.Idx → Elt Bits .i32)) (T1 : (S40.Idx → Elt Bits .i32)) (T2 : (S1.Idx → Elt Bits .i32))
    (x0 : (S1024x2048.Idx → Elt Bits .bf16)) (x1 : (S1x2048x256.Idx → Elt Bits .f32)) (x2 : (S1x2048x256.Idx → Elt Bits .f32)) (x3 : (S1x256x2048.Idx → Elt Bits .f32)) (xo4 : (S1024x2048.Idx → Elt Bits .f32))
    (h1 : ¬(k0_cond1 i = 1#1)) (h2 : ¬(k0_cond2 (word i T1) = 1#1)) (h3 : ¬(k0_cond3 (word i T1) = 1#1)) :
    { out0 : List (View.Piece (Elt Bits) S1024x2048 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare xo4
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (arg9.view.loc (c : Thread nD τ) ↦[arg9.view.set]{fullShare} arg9.view.writes (Elt Bits) (harg9.unread xo4) out0)) -∗ K ⟨⟩))
          ⊢ wp frame (wpE (defs₀ (F := Bits)) Variants.none c none) Set.univ (cc0_moe_ffn i tbM0_0 (Memref.isWhole_whole _) tbM0_1 (Memref.isWhole_whole _) tbM0_2 (Memref.isWhole_whole _) arg5 harg5 arg6 harg6 arg7 harg7 arg8 harg8 arg9 harg9) K } :=
  ⟨[], fun K => by
    unfold owns
    rw [cc0_moe_ffn_eq_skeleton]; unfold cc0_moe_ffn_skel
    iintro ⟨H0, H1, H2, H3, HT0, HT1, HT2, ⟨%f4, %hf4, HO4⟩, Hk⟩
    obtain rfl := harg9.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact h1) | (guard_target = ¬(k0_cond2 _ = _); exact h2) | (guard_target = ¬(k0_cond3 _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexact HO4⟩

end MoeB

end
-- ==== Proof.MoeCfgB.lean ====
module

public import proofs.«01_k».proof.Proof.Gen.Kernel2.Skeleton
public import proofs.«01_k».proof.Proof.Gen.Kernel2.Launch
public import proofs.«01_k».proof.Proof.MoeTabB
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The schedule of the expert feed-forward and what its output block holds after each grid point. -/

@[expose] public section

set_option maxRecDepth 16384
set_option Elab.async false

noncomputable section

namespace MoeB

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra. -/
abbrev EP : Emb (UR sig nD τ) 𝕄 := emb₁

variable (ch : Tab)
/-- The admissible contents, the pipeline at them (`cfgA ch`: member `ch`'s grid, 880 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x2048x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x2048x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x256x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The schedule -/

abbrev C1 (t : Fin (cfgA ch).N) : Prop := k0_cond1 (crd ch t) = 1#1
abbrev C2 (t : Fin (cfgA ch).N) : Prop := k0_cond2 (word (crd ch t) ch.tr) = 1#1
abbrev C3 (t : Fin (cfgA ch).N) : Prop := k0_cond3 (word (crd ch t) ch.tr) = 1#1

theorem c1_tab : ∀ t : Fin grid0.N, (k0_cond1 (grid0.coords t) == 1#1) = (t.val % 22 == 0) := by decide +kernel
theorem flush_tab : ∀ t : Fin grid0.N, Window.flushOf grid0 true cc0_transform_4 t = ((t.val + 1) % 22 == 0) := by decide +kernel

theorem idle4 (t : Fin (cfgA ch).N) : (cfgA ch).idle (4 : Fin 5) (crd ch t)
    = (!(k0_cond1 (crd ch t) == 1#1) && !(k0_cond2 (word (crd ch t) ch.tr) == 1#1) && !(k0_cond3 (word (crd ch t) ch.tr) == 1#1)) := by
  rw [← atD_eq]; rfl

theorem flush4 (t : Fin (cfgA ch).N) : ((cfgA ch).win (4 : Fin 5)).flush t = ((t.val + 1) % 22 == 0) := flush_tab t

/-- Nothing has been stored since the last write-back exactly at a first column block. -/
def frTab (n : ℕ) : Bool := n % 22 == 0

theorem frTab_step (t : Fin (cfgA ch).N) :
    frTab (t.val + 1) = (((cfgA ch).win (4 : Fin 5)).flush t || ((cfgA ch).idle (4 : Fin 5) ((cfgA ch).grid.coords t) && frTab t.val)) := by
  have h := c1_tab t
  rw [flush4]
  have h2 := idle4 ch t
  rw [show k0_cond1 (crd ch t) = k0_cond1 (grid0.coords t) from rfl, h] at h2
  rw [show (cfgA ch).idle (4 : Fin 5) ((cfgA ch).grid.coords t) = _ from h2]
  unfold frTab
  cases (t.val % 22 == 0) <;> simp

theorem freshF (t : Fin (cfgA ch).N) : (cfgA ch).fresh (4 : Fin 5) t.val = frTab t.val :=
  Pipeline.Cfg.fresh_tab (cfgA ch) (4 : Fin 5) frTab rfl (frTab_step ch) t.val (Nat.le_of_lt t.isLt)

theorem c1_iff (t : Fin (cfgA ch).N) : C1 ch t ↔ t.val % 22 = 0 := by
  have h := c1_tab t
  rw [Bool.eq_iff_iff, beq_iff_eq, beq_iff_eq] at h
  exact h

theorem fresh_c1 (t : Fin (cfgA ch).N) (q : C1 ch t) : (cfgA ch).fresh (4 : Fin 5) t.val = true := by
  rw [freshF]; unfold frTab; rw [beq_iff_eq]; exact (c1_iff ch t).1 q
theorem fresh_n1 (t : Fin (cfgA ch).N) (q : ¬C1 ch t) : (cfgA ch).fresh (4 : Fin 5) t.val = false := by
  rw [freshF]; unfold frTab; rw [Bool.eq_false_iff, ne_eq, beq_iff_eq]; exact fun h => q ((c1_iff ch t).2 h)
theorem idle_busy (t : Fin (cfgA ch).N) (q : C1 ch t ∨ C2 ch t ∨ C3 ch t) : (cfgA ch).idle (4 : Fin 5) ((cfgA ch).grid.coords t) = false := by
  refine (idle4 ch t).trans ?_
  rcases q with q | q | q <;> rw [q] <;> simp
theorem idle_none (t : Fin (cfgA ch).N) (q1 : ¬C1 ch t) (q2 : ¬C2 ch t) (q3 : ¬C3 ch t) : (cfgA ch).idle (4 : Fin 5) ((cfgA ch).grid.coords t) = true := by
  refine (idle4 ch t).trans ?_
  rw [beq_eq_false_iff_ne.2 q1, beq_eq_false_iff_ne.2 q2, beq_eq_false_iff_ne.2 q3]; rfl

/-! ## What the output block holds after each point -/

/-- One point's effect on the output block. -/
def step0 (c : Dev nD) (t : Fin (cfgA ch).N) (prev : (S1024x2048.Idx → Elt Bits .f32)) : (S1024x2048.Idx → Elt Bits .f32) :=
  if q1 : C1 ch t then
    if q2 : C2 ch t then outA c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 (not3_of_2 q2)
    else if q3 : C3 ch t then outC c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3
    else outE c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3
  else
    if q2 : C2 ch t then outB c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 (not3_of_2 q2)
    else if q3 : C3 ch t then outD c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 q3
    else prev

/-- THE TRAJECTORY: after position `n`. -/
def traj0 (c : Dev nD) : (n : ℕ) → n < (cfgA ch).N → (S1024x2048.Idx → Elt Bits .f32)
  | 0, h => step0 ch m ρ c ⟨0, h⟩ default
  | n + 1, h => step0 ch m ρ c ⟨n + 1, h⟩ (traj0 c n (Nat.lt_of_succ_lt h))

/-- What they held BEFORE point `t` (junk before the first). -/
def prev0 (c : Dev nD) (t : Fin (cfgA ch).N) : (S1024x2048.Idx → Elt Bits .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x2048.Idx → Elt Bits .f32)) (q1 : C1 ch t) (q2 : C2 ch t) (q3 : ¬C3 ch t) :
    step0 ch m ρ c t prev = outA c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3 := by
  unfold step0; rw [dif_pos q1, dif_pos q2]

theorem step0_B (c : Dev nD) (t : Fin (cfgA ch).N) (prev : (S1024x2048.Idx → Elt Bits .f32)) (q1 : ¬C1 ch t) (q2 : C2 ch t) (q3 : ¬C3 ch t) :
    step0 ch m ρ c t prev = outB c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 q3 := by
  unfold step0; rw [dif_neg q1, dif_pos q2]

theorem step0_C (c : Dev nD) (t : Fin (cfgA ch).N) (prev : (S1024x2048.Idx → Elt Bits .f32)) (q1 : C1 ch t) (q2 : ¬C2 ch t) (q3 : C3 ch t) :
    step0 ch m ρ c t prev = outC c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3 := by
  unfold step0; rw [dif_pos q1, dif_neg q2, dif_pos q3]

theorem step0_D (c : Dev nD) (t : Fin (cfgA ch).N) (prev : (S1024x2048.Idx → Elt Bits .f32)) (q1 : ¬C1 ch t) (q2 : ¬C2 ch t) (q3 : C3 ch t) :
    step0 ch m ρ c t prev = outD c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) prev q1 q2 q3 := by
  unfold step0; rw [dif_neg q1, dif_neg q2, dif_pos q3]

theorem step0_E (c : Dev nD) (t : Fin (cfgA ch).N) (prev : (S1024x2048.Idx → Elt Bits .f32)) (q1 : C1 ch t) (q2 : ¬C2 ch t) (q3 : ¬C3 ch t) :
    step0 ch m ρ c t prev = outE c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3 := by
  unfold step0; rw [dif_pos q1, dif_neg q2, dif_neg q3]

theorem step0_G (c : Dev nD) (t : Fin (cfgA ch).N) (prev : (S1024x2048.Idx → Elt Bits .f32)) (q1 : ¬C1 ch t) (q2 : ¬C2 ch t) (q3 : ¬C3 ch t) :
    step0 ch m ρ c t prev = prev := by
  unfold step0; rw [dif_neg q1, dif_neg q2, dif_neg q3]

end MoeB

end
-- ==== Proof.MoeFrameB.lean ====
module

public import proofs.«01_k».proof.Proof.Gen.Kernel2.Skeleton
public import proofs.«01_k».proof.Proof.Gen.Kernel2.Launch
public import proofs.«01_k».proof.Proof.MoeCfgB
public import Idealize.ShloMosaic.Lib.Pipeline.Quiescent
public import Idealize.ShloMosaic.Lib.Claim
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The frame of the expert feed-forward. -/

@[expose] public section

set_option maxRecDepth 16384
set_option Elab.async false

noncomputable section

namespace MoeB

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (ch : Tab)
variable (m : (ℓ : Loc nD τ sig) → Buf (Elt Bits) ℓ) (ρ : Dev nD → PrngReg)

/-! ## The pipeline's proof data -/

/-- What the tracked buffers held before position `t` of `Fin (N+1)` (the invariant's index). -/
def prev0T (c : Dev nD) (t : Fin ((cfgA ch).N + 1)) : (S1024x2048.Idx → Elt Bits .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} ch.te) ∗ (tbM0_1.view.loc (c : Thread nD τ) ↦{fullShare.right} ch.tr) ∗ (tbM0_2.view.loc (c : Thread nD τ) ↦{fullShare.right} ch.na))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q1 : C1 ch t
  · rw [idle_busy ch t (.inl q1)] at hi; exact absurd hi (by decide)
  by_cases q2 : C2 ch t
  · rw [idle_busy ch t (.inr (.inl q2))] at hi; exact absurd hi (by decide)
  by_cases q3 : C3 ch t
  · rw [idle_busy ch t (.inr (.inr q3))] at hi; exact absurd hi (by decide)
  rw [step0_G ch m ρ c t _ q1 q2 q3]; unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe_ffn (crd ch t) (Memref.whole main_arg0) (Memref.isWhole_whole _) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at a point, by control path. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q1 : C1 ch t
  · by_cases q2 : C2 ch t
    · have q3 := not3_of_2 q2
      have i4 := idle_busy ch t (.inl q1)
      have fr4 := fresh_c1 ch t q1
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q1 q2 q3]
      unfold Phi; simp only [prev0T_castSucc, prev0T_succ, traj0_eq, step0_A ch m ρ c t _ q1 q2 q3, Fin.val_castSucc, Fin.val_succ]
      iintro ⟨⟨HT0, HT1, HT2⟩, Ho, ⟨%d0, H0⟩, ⟨%d1, H1⟩, ⟨%d2, H2⟩, ⟨%d3, H3⟩, ⟨%d4, H4⟩⟩
      iapply ((runA c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexists _; iexact H4
      iintro ⟨H0, H1, H2, H3, HT0, HT1, HT2, ⟨%e4, H4⟩⟩
      isplitl [HT0 HT1 HT2]
      · isplitl [HT0]
        · iexact HT0
        isplitl [HT1]
        · iexact HT1
        iexact HT2
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverA c _ _ _ _ _ _ _ _ _ _ _ _ _ _ _ _ _ _ q1 q2 q3)
    · by_cases q3 : C3 ch t
      · have i4 := idle_busy ch t (.inl q1)
        have fr4 := fresh_c1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q1 q2 q3]
        unfold Phi; simp only [prev0T_castSucc, prev0T_succ, traj0_eq, step0_C ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runC c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexists _; iexact H4
        iintro ⟨H0, H1, H2, H3, HT0, HT1, HT2, ⟨%e4, H4⟩⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; exact View.read_writes_of_cover _ _ _ _ _ (coverC c _ _ _ _ _ _ _ _ _ _ _ _ _ _ _ _ _ _ q1 q2 q3)
      · have i4 := idle_busy ch t (.inl q1)
        have fr4 := fresh_c1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q1 q2 q3]
        unfold Phi; simp only [prev0T_castSucc, prev0T_succ, traj0_eq, step0_E ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runE c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexists _; iexact H4
        iintro ⟨H0, H1, H2, H3, HT0, HT1, HT2, ⟨%e4, H4⟩⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; exact View.read_writes_of_cover _ _ _ _ _ (coverE c _ _ _ _ _ _ _ _ _ _ _ _ _ _ _ _ _ _ q1 q2 q3)
  · by_cases q2 : C2 ch t
    · have q3 := not3_of_2 q2
      have i4 := idle_busy ch t (.inr (.inl q2))
      have fr4 := fresh_n1 ch t q1
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q1 q2 q3]
      unfold Phi; simp only [prev0T_castSucc, prev0T_succ, traj0_eq, step0_B ch m ρ c t _ q1 q2 q3, Fin.val_castSucc, Fin.val_succ]
      iintro ⟨⟨HT0, HT1, HT2⟩, Ho, ⟨%d0, H0⟩, ⟨%d1, H1⟩, ⟨%d2, H2⟩, ⟨%d3, H3⟩, ⟨%d4, H4⟩⟩
      iapply ((runB c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) _ q1 q2 q3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexact H4
      iintro ⟨H0, H1, H2, H3, HT0, HT1, HT2, ⟨%e4, H4⟩⟩
      isplitl [HT0 HT1 HT2]
      · isplitl [HT0]
        · iexact HT0
        isplitl [HT1]
        · iexact HT1
        iexact HT2
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact View.read_writes_of_cover _ _ _ _ _ (coverB c _ _ _ _ _ _ _ _ _ _ _ _ _ _ _ _ _ _ _ q1 q2 q3)
    · by_cases q3 : C3 ch t
      · have i4 := idle_busy ch t (.inr (.inr q3))
        have fr4 := fresh_n1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q1 q2 q3]
        unfold Phi; simp only [prev0T_castSucc, prev0T_succ, traj0_eq, step0_D ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runD c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) _ q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexact H4
        iintro ⟨H0, H1, H2, H3, HT0, HT1, HT2, H4⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        unfold owns; iexists _; isplitr; swap
        · iexact H4
        · ipureintro; rfl
      · have i4 := idle_none ch t q1 q2 q3
        have fr4 := fresh_n1 ch t q1
        rewrite [i4]
        simp only [before0_0, before0_1, before0_2, before0_3, before0_4, after0_0, after0_1, after0_2, after0_3, after0_4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_G ch m ρ c t _ q1 q2 q3]
        unfold Phi; simp only [prev0T_castSucc, prev0T_succ, traj0_eq, step0_G ch m ρ c t _ q1 q2 q3, Fin.val_castSucc, Fin.val_succ]
        iintro ⟨⟨HT0, HT1, HT2⟩, Ho, ⟨%d0, H0⟩, ⟨%d1, H1⟩, ⟨%d2, H2⟩, ⟨%d3, H3⟩, ⟨%d4, H4⟩⟩
        iapply ((runG c (crd ch t) (ms0_0 ch t) (hs0_0 ch t) (ms0_1 ch t) (hs0_1 ch t) (ms0_2 ch t) (hs0_2 ch t) (ms0_3 ch t) (hs0_3 ch t) (ms0_4 ch t) (hs0_4 ch t) ch.te ch.tr ch.na (iblk ch m ρ c (0 : Fin 5) t) (iblk ch m ρ c (1 : Fin 5) t) (iblk ch m ρ c (2 : Fin 5) t) (iblk ch m ρ c (3 : Fin 5) t) _ q1 q2 q3).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HT2]; · iexact HT2
        isplitl [H4]; · iexact H4
        iintro ⟨H0, H1, H2, H3, HT0, HT1, HT2, H4⟩
        isplitl [HT0 HT1 HT2]
        · isplitl [HT0]
          · iexact HT0
          isplitl [HT1]
          · iexact HT1
          iexact HT2
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        rcases hfl : ((cfgA ch).win (4 : Fin 5)).flush t with _ | _
        · iexists d4
          unfold owns; iexists _; isplitr; swap
          · iexact H4
          · ipureintro; exact (hs0_4 ch t).read_unread _
        · unfold owns; iexists _; isplitr; swap
          · iexact H4
          · ipureintro; exact (hs0_4 ch t).read_unread _

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, -⟩
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -, -⟩
  isplitr; · iempintro
  iempintro

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 3) : m ((c : Thread nD τ).loc (pre0.ref j)) = (adm ch).1 j := by
  fin_cases j
  · exact hp.1 c
  · exact hp.2.1 c
  · exact hp.2.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2.1 c).symm, ((h c).2 2).trans (hp.2.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame: from a launch memory with these tables the run ends, the arguments unchanged and the counters at zero. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end MoeB

end
-- ==== Proof.MoeRef.lean ====
module

public import proofs.«01_k».proof.Proof.Gen.Reference2Ideal.Read
public import proofs.«01_k».proof.Proof.MoePay
public import Idealize.ShloMosaic.Lib.Pointwise

/-! The reference of the expert feed-forward read at one entry. -/

@[expose] public section

set_option maxRecDepth 16384
open Cert.Reference2Ideal Cert.Reference2Ideal.Read Idealize.ShloMosaic Idealize.ShloMosaic.TcCoe

namespace Moe

variable (x0 : Vec Ideal S40 .i32) (x3 : Vec Ideal S40960x2048 .bf16) (x4 x5 : Vec Ideal S8x2048x5632 .f32) (x6 : Vec Ideal S8x5632x2048 .f32)

theorem r1_at (e : Fin 8) (r : Fin 40960) (k : Fin 2048) : (val_main_v1 (F := Ideal) x3 (ix3 e r k) : EReal) = x3 (ix2 r k) := by
  pointwise [val_main_v1, val_main_v0]

theorem r2_at (e : Fin 8) (r : Fin 40960) (j : Fin 5632) :
    (val_main_v2 (F := Ideal) x3 x4 (ix3 e r j) : EReal) = ∑ k : Fin 2048, (x3 (ix2 r k) : EReal) * x4 (ix3 e k j) := by
  have h : ∀ y : Vec Ideal S8x40960x2048 .f32, (Host.dotGeneral (F := Ideal) (φ₁ := .f32) (φ₂ := .f32) dot_S8x40960x2048_S8x2048x5632_S8x40960x5632_2_1_1_2_0_0 none y x4 (ix3 e r j) : EReal)
      = ∑ k : Fin 2048, (y (ix3 e r k) : EReal) * x4 (ix3 e k j) := fun y => by pointwise
  refine (h _).trans (Finset.sum_congr rfl fun k _ => ?_)
  rw [r1_at]

theorem r3_at (e : Fin 8) (r : Fin 40960) (j : Fin 5632) :
    (val_main_v3 (F := Ideal) x3 x5 (ix3 e r j) : EReal) = ∑ k : Fin 2048, (x3 (ix2 r k) : EReal) * x5 (ix3 e k j) := r2_at x3 x5 e r j

theorem r5_at (e : Fin 8) (r : Fin 40960) (j : Fin 5632) :
    (val_main_v5 (F := Ideal) x3 x4 x5 (ix3 e r j) : EReal)
      = hid (fun k => x3 (ix2 r k)) (fun k => x4 (ix3 e k j)) (fun k => x5 (ix3 e k j)) := by
  have h0 : Ideal.ofBits .f32 0x00000000#32 = 0 := by
    simp only [Ideal.ofBits, Ideal.ieee]; norm_num
  unfold hid
  rw [h0, zero_sub, ← r2_at x3 x4 e r j, ← r2_at x3 x5 e r j]
  have h : ∀ g u : FVec Ideal S8x40960x5632 .f32, ((mulf (mulf g (Host.divf (val_main_call0_v4 (F := Ideal)) (addf (val_main_call0_v2 (F := Ideal)) (Host.exp (Host.negf g))))) u : FVec Ideal S8x40960x5632 .f32) (ix3 e r j) : EReal)
      = g (ix3 e r j) * Ideal.div (Ideal.ofBits .f32 0x3F800000#32) (Ideal.ofBits .f32 0x3F800000#32 + Ideal.exp (- g (ix3 e r j))) * u (ix3 e r j) := fun g u => by
    pointwise [val_main_call0_v4, val_main_call0_v2, val_main_call0_cst, val_main_call0_cst_0]
  exact h _ _

theorem r6_at (e : Fin 8) (r : Fin 40960) (d : Fin 2048) :
    (val_main_v6 (F := Ideal) x3 x4 x5 x6 (ix3 e r d) : EReal)
      = ∑ j : Fin 5632, hid (fun k => x3 (ix2 r k)) (fun k => x4 (ix3 e k j)) (fun k => x5 (ix3 e k j)) * x6 (ix3 e j d) := by
  have h : ∀ y : Vec Ideal S8x40960x5632 .f32, (Host.dotGeneral (F := Ideal) (φ₁ := .f32) (φ₂ := .f32) dot_S8x40960x5632_S8x5632x2048_S8x40960x2048_2_1_1_2_0_0 none y x6 (ix3 e r d) : EReal)
      = ∑ j : Fin 5632, (y (ix3 e r j) : EReal) * x6 (ix3 e j d) := fun y => by pointwise
  refine (h _).trans (Finset.sum_congr rfl fun j _ => ?_)
  rw [r5_at]

theorem r12_at (e : Fin 8) (r : Fin 40960) (d : Fin 2048) :
    val_main_v12 (F := Ideal) x0 (ix3 e r d) = x0 (ix1 ⟨r.val / 1024, by omega⟩) := by
  rw [val_main_v12_apply, val_main_v10_apply, val_main_v9_apply, val_main_v8_apply, val_main_v7_apply]
  refine congrArg x0 (funext fun a => ?_)
  fin_cases a
  rfl

theorem r14_at (e : Fin 8) (r : Fin 40960) (d : Fin 2048) (h : (x0 (ix1 ⟨r.val / 1024, by omega⟩)).toNat < 8) :
    (val_main_v14 (F := Ideal) x0 x3 x4 x5 x6 (ix3 e r d) : EReal)
      = if e = ⟨(x0 (ix1 ⟨r.val / 1024, by omega⟩)).toNat, h⟩ then (val_main_v6 (F := Ideal) x3 x4 x5 x6 (ix3 e r d) : EReal) else 0 := by
  rw [val_main_v14_apply, val_main_v13_apply, r12_at, val_main_v11_apply]
  have h0 : (val_main_call1_v1 (F := Ideal) (ix3 e r d) : EReal) = 0 := by
    rw [val_main_call1_v1_apply, val_main_call1_v0_apply, val_main_cst_apply]
    show Ideal.ofBits .f32 0x00000000#32 = 0
    simp only [Ideal.ofBits, Ideal.ieee]; norm_num
  rw [h0]
  generalize x0 (ix1 ⟨r.val / 1024, by omega⟩) = w at h ⊢
  have key : ∀ e : Fin 8, (w = BitVec.ofNat 32 e.val) ↔ e = ⟨w.toNat, h⟩ := fun e => by
    rw [Fin.ext_iff]
    constructor
    · rintro rfl
      simp only [BitVec.toNat_ofNat]; omega
    · intro h2
      rw [h2]; simp
  by_cases hc : e = ⟨w.toNat, h⟩
  · rw [if_pos hc, show IntOp.cmpi .eq w (BitVec.ofNat 32 ((ix3 e r d) 0).val) = 1#1 from by
      rw [(key e).2 hc]; simp [IntOp.cmpi, ix3]]
    rfl
  · rw [if_neg hc, show IntOp.cmpi .eq w (BitVec.ofNat 32 ((ix3 e r d) 0).val) = 0#1 from by
      have := mt (key e).1 hc
      have h3 : (w == BitVec.ofNat 32 e.val) = false := by simpa using this
      show BitVec.ofBool (w == BitVec.ofNat 32 e.val) = 0#1
      rw [h3]; rfl]
    rfl

theorem ref_at (r : Fin 40960) (d : Fin 2048) (h : (x0 (ix1 ⟨r.val / 1024, by omega⟩)).toNat < 8) :
    (val_main_v15 (F := Ideal) x0 x3 x4 x5 x6 (ix2 r d) : EReal)
      = ∑ j : Fin 5632, hid (fun k => x3 (ix2 r k)) (fun k => x4 (ix3 ⟨_, h⟩ k j)) (fun k => x5 (ix3 ⟨_, h⟩ k j)) * x6 (ix3 ⟨_, h⟩ j d) := by
  rw [val_main_v15_apply]
  have h0 : (val_main_cst_0 (F := Ideal) : Vec Ideal S_ .f32) = fun _ => (0 : EReal) := by
    funext i
    rw [val_main_cst_0_apply]
    show Ideal.ofBits .f32 0x00000000#32 = 0
    simp only [Ideal.ofBits, Ideal.ieee]; norm_num
  have hs : ∑ e : Fin 8, (val_main_v14 (F := Ideal) x0 x3 x4 x5 x6 (ix3 e r d) : EReal)
      = (val_main_v6 (F := Ideal) x3 x4 x5 x6 (ix3 ⟨_, h⟩ r d) : EReal) := by
    rw [Finset.sum_congr rfl fun e _ => r14_at x0 x3 x4 x5 x6 e r d h]
    rw [Finset.sum_ite_eq' Finset.univ, if_pos (Finset.mem_univ _)]
  rw [← r6_at, ← hs, h0]
  refine (zero_add _).trans (Finset.sum_congr rfl fun e _ => congrArg _ (funext fun a => ?_))
  fin_cases a <;> rfl

end Moe
-- ==== Proof.MoeEnd.lean ====
module

public import proofs.«01_k».proof.Defs
public import proofs.«01_k».proof.Proof.MoePre
public import proofs.«01_k».proof.Proof.MoeBridge
public import proofs.«01_k».proof.Proof.MoeFrameB
public import proofs.«01_k».proof.Proof.MoeRef
public import proofs.«01_k».proof.Proof.Gen.Reference2Ideal.Run
public import Idealize.ShloMosaic.Lib.Claim
public import Idealize.ShloMosaic.Lib.Quiescent

/-! The claims about the expert feed-forward. -/

@[expose] public section

set_option maxRecDepth 16384
open Idealize.ShloMosaic Idealize.ShloMosaic.TcCoe Idealize.SL.Sem

namespace MoeB
open Cert.Kernel2

/-- The tables of a launch memory that meets the precondition. -/
noncomputable def tabOf (m : (ℓ : Loc nD τ sig) → Buf (Elt Bits) ℓ) (h : Cert.Pre_Kernel2 m) : Tab where
  te := m (((0 : Dev nD) : Thread nD τ).loc main_arg0)
  tr := m (((0 : Dev nD) : Thread nD τ).loc main_arg1)
  na := m (((0 : Dev nD) : Thread nD τ).loc main_arg2)
  hte := (MoePre.ranges _ _ _ _ _ _ _ (h 0)).1
  hna := (MoePre.ranges _ _ _ _ _ _ _ (h 0)).2

theorem one_dev (c : Dev nD) : c = 0 := Subsingleton.elim (α := Fin 1) c 0

theorem pinned (m : (ℓ : Loc nD τ sig) → Buf (Elt Bits) ℓ) (h : Cert.Pre_Kernel2 m) : Pinned (tabOf m h) m :=
  ⟨fun c => by rw [one_dev c]; rfl, fun c => by rw [one_dev c]; rfl, fun c => by rw [one_dev c]; rfl⟩

theorem quiescent : Cert.quiescent_Kernel2 := fun m g h => frame (tabOf m h) m g (pinned m h)

end MoeB

namespace Moe
open Cert.Kernel2Ideal

/-- The tables of a launch memory that meets the precondition. -/
noncomputable def tabOf (m : (ℓ : Loc nD τ sig) → Buf (Elt Ideal) ℓ) (h : Cert.Pre_Kernel2Ideal m) : Tab where
  te := m (((0 : Dev nD) : Thread nD τ).loc main_arg0)
  tr := m (((0 : Dev nD) : Thread nD τ).loc main_arg1)
  na := m (((0 : Dev nD) : Thread nD τ).loc main_arg2)
  hte := (MoePre.ranges _ _ _ _ _ _ _ (h 0)).1
  hna := (MoePre.ranges _ _ _ _ _ _ _ (h 0)).2

theorem one_dev (c : Dev nD) : c = 0 := Subsingleton.elim (α := Fin 1) c 0

theorem pinned (m : (ℓ : Loc nD τ sig) → Buf (Elt Ideal) ℓ) (h : Cert.Pre_Kernel2Ideal m) : Pinned (tabOf m h) m :=
  ⟨fun c => by rw [one_dev c]; rfl, fun c => by rw [one_dev c]; rfl, fun c => by rw [one_dev c]; rfl⟩

theorem quiescent : Cert.quiescent_Kernel2Ideal := fun m g h => frame (tabOf m h) m g (pinned m h)

end Moe

namespace Moe
open Cert.Kernel2Ideal

/-- The reference's result at a launch memory's arguments. -/
noncomputable abbrev refOf (m : (ℓ : Loc nD τ sig) → Buf (Elt Ideal) ℓ) (c : Dev nD) : S40960x2048.Idx → EReal :=
  Cert.Reference2Ideal.Read.val_main_v15 (F := Ideal) (m ((c.tc : Thread nD τ).loc main_arg0)) (m ((c.tc : Thread nD τ).loc main_arg3))
    (m ((c.tc : Thread nD τ).loc main_arg4)) (m ((c.tc : Thread nD τ).loc main_arg5)) (m ((c.tc : Thread nD τ).loc main_arg6))

theorem ix1_one : (one : S1.Idx) = ix1 0 := by
  funext a
  fin_cases a
  exact Subsingleton.elim (α := Fin 1) _ _

/-- Where the mask is set, the output array ends at the reference's result. -/
theorem agree (m : (ℓ : Loc nD τ sig) → Buf (Elt Ideal) ℓ) (g : Dev nD → PrngReg) (h : Cert.Pre_Kernel2Ideal m) (c : Dev nD) (R : Fin 40960) (d : Fin 2048)
    (hm : Cert.On_in_use.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (ix2 R d) = 1#1) :
    ((dats (tabOf m h) m g 0 c).arrAt (4 : Fin 5) (cfgA (tabOf m h)).N (ix2 R d : S40960x2048.Idx) : EReal) = refOf m c (ix2 R d) := by
  obtain rfl := one_dev c
  have hn := (MoePre.ranges _ _ _ _ _ _ _ (h 0))
  obtain ⟨h1, h2⟩ := MoePre.in_use _ _ _ _ _ _ _ (hn.2 _).2 R d hm
  refine (out_at (tabOf m h) m g 0 R d ?_ h2).trans ?_
  · show R.val / 1024 < ((tabOf m h).na one).toNat
    rw [ix1_one]
    exact h1
  · exact (ref_at _ _ _ _ _ R d (hn.1 _)).symm

theorem algebraic : Cert.algebraic_Kernel2Ideal_Reference2Ideal_on_in_use := by
  intro m g m' g' hpre hagree
  refine ⟨fun c => refOf m c, ?_, ?_⟩
  · refine (θ_run _ _ _).mono (fun r hr c => ⟨fun i hi => ?_, hr.2 c⟩)
      (θ_run_and (run_main (tabOf m hpre) m g (pinned m hpre)) (unchanged (tabOf m hpre) m g (pinned m hpre)))
    obtain ⟨R, d, rfl⟩ : ∃ (R : Fin 40960) (d : Fin 2048), i = (ix2 R d : S40960x2048.Idx) := ⟨i (0 : Fin 2), i (1 : Fin 2), by funext a; fin_cases a <;> rfl⟩
    exact (congrFun ((hr.1 c).1 (4 : Fin 5)) (ix2 R d : S40960x2048.Idx)).trans (agree m g hpre c R d hi)
  · refine (θ_run _ _ _).mono (fun r hr c => ⟨fun i _ => ?_, (hr c).2⟩) (Cert.Reference2Ideal.Value.run m' g')
    obtain ⟨e0, e1, e2, e3, e4, e5, e6⟩ := hagree c
    have e := (hr c).1
    rw [Cert.Reference2Ideal.Read.val_main_v15_eq, e0, e3, e4, e5, e6] at e
    exact congrFun e i

end Moe
-- ==== Proof.lean ====
module

public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Pre_routed
public import proofs.«01_k».proof.Proof.Gen.On_in_use
public import proofs.«01_k».proof.Proof.Gen.Reference2Ideal.Read
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Bridge
public import proofs.«01_k».proof.Proof.Finite
public import proofs.«01_k».proof.Proof.MoeEnd
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

theorem quiescent_RI : Cert.quiescent_ReferenceIdeal := by
  intro m g _
  exact (θ_run _ _ _).mono (fun r h => ⟨fun c => (h c).2, sem_eq_zero_of_no_sems (by decide) r.2⟩) (Cert.ReferenceIdeal.Value.run m g)

theorem quiescent_RI2 : Cert.quiescent_Reference2Ideal := by
  intro m g _
  exact (θ_run _ _ _).mono (fun r h => ⟨fun c => (h c).2, sem_eq_zero_of_no_sems (by decide) r.2⟩) (Cert.Reference2Ideal.Value.run m g)

theorem algebraic : Cert.algebraic_KernelIdeal_ReferenceIdeal_pre_finite := by
  pair_intro
  · run_from Cert.KernelIdeal.Gen.run_main m g
  · run_from Cert.ReferenceIdeal.Value.run m' g'
    rw [Cert.ReferenceIdeal.Read.val_main_v48_eq]
    obtain ⟨⟨q, hq⟩, ⟨k, hk⟩, ⟨v, hv⟩, ⟨a3, h3⟩, ⟨a4, h4⟩, ⟨a5, h5⟩, ⟨a6, h6⟩⟩ := Diff.fin_split _ _ _ _ _ _ _ _ (hpre c)
    obtain ⟨l, hl⟩ := Diff.v7_real a3 a4 a5 a6
    have hf := Diff.final m c q k v hq hk hv l (by
      rw [show Diff.l1 m c = _ from h3, show Diff.l2 m c = _ from h4, show Diff.l3 m c = _ from h5, show Diff.l4 m c = _ from h6]
      exact hl)
    obtain ⟨e0, e1, e2, e3, e4, e5, e6, e7⟩ := hagree c
    rw [e0, e1, e2, e3, e4, e5, e6, e7]
    exact hf.symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  Cert.Pre_routed.Gen.facts, Cert.On_in_use.Gen.facts,
  fun m g _ => Cert.Kernel.Gen.frame m g,
  fun m g _ => Cert.KernelIdeal.Gen.frame m g,
  fun m g _ => Cert.KernelIdeal.Gen.frame m g,
  quiescent_RI,
  fun m g _ => quiescent_RI m g trivial,
  MoeB.quiescent,
  Moe.quiescent,
  quiescent_RI2,
  fun m g _ => quiescent_RI2 m g trivial,
  trivial,
  algebraic,
  trivial,
  Moe.algebraic⟩

end Cert.Proof

end
